-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_count" .f32 0x362EC33E#32 ((384000⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x128x3000 : Shape := ⟨4, ![64, 1, 128, 3000]⟩
abbrev S64x8 : Shape := ⟨2, ![64, 8]⟩
abbrev S64x1x3000x128 : Shape := ⟨4, ![64, 1, 3000, 128]⟩
abbrev S8x3000x128 : Shape := ⟨3, ![8, 3000, 128]⟩
abbrev S2 : Shape := ⟨1, ![2]⟩
abbrev S1 : Shape := ⟨1, ![1]⟩
abbrev S_ : Shape := ⟨0, ![]⟩
abbrev S4x1x3000x128 : Shape := ⟨4, ![4, 1, 3000, 128]⟩
abbrev S4x3000x128 : Shape := ⟨3, ![4, 3000, 128]⟩
abbrev S1x3000x128 : Shape := ⟨3, ![1, 3000, 128]⟩
abbrev S3000x128 : Shape := ⟨2, ![3000, 128]⟩
abbrev S1x1x3000x128 : Shape := ⟨4, ![1, 1, 3000, 128]⟩
abbrev S1x1x1 : Shape := ⟨3, ![1, 1, 1]⟩
abbrev S1x1 : Shape := ⟨2, ![1, 1]⟩

abbrev nBuf : Space → Nat
  | .hbm => 5
  | .vmem => 1
  | .smem => 1
  | _ => 0

abbrev bufTy : (tb : Table) → Fin (tcTables nBuf tb) → BufTy
  | .hbm, ⟨0, _⟩ => ⟨S64x1x128x3000, .f32⟩
  | .hbm, ⟨1, _⟩ => ⟨S64x8, .i32⟩
  | .hbm, ⟨2, _⟩ => ⟨S64x1x3000x128, .f32⟩
  | .hbm, ⟨3, _⟩ => ⟨S64x1x3000x128, .f32⟩
  | .hbm, ⟨4, _⟩ => ⟨S64x1x128x3000, .f32⟩
  | .local _ .vmem, ⟨0, _⟩ => ⟨S8x3000x128, .f32⟩
  | .local _ .smem, ⟨0, _⟩ => ⟨S64x8, .i32⟩
  | _, _ => ⟨S64x1x128x3000, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v1 : BitVec 1 := Scalar.cmpi .slt arg0 c16_i32
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c2_i32_5 : BitVec 32 := 2#32
  let v12 : BitVec 1 := Scalar.cmpi .sge arg0 c2_i32_5
  let v13 : BitVec 32 := Scalar.extui v12
  let c0_i32_6 : BitVec 32 := 0#32
  let v14 : BitVec 1 := Scalar.cmpi .ne v13 c0_i32_6
  v14

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 4 → Nat :=
  let arg0 : BitVec 32 := BitVec.ofNat 32 (i 0).val
  let c2_i32_41 : BitVec 32 := 2#32
  let v55 : BitVec 32 := Scalar.subi arg0 c2_i32_41
  let c4_i32_43 : BitVec 32 := 4#32
  let v57 : BitVec 32 := Scalar.muli v55 c4_i32_43
  let c0_i32_44 : BitVec 32 := 0#32
  let c0_i32_45 : BitVec 32 := 0#32
  let c0_i32_46 : BitVec 32 := 0#32
  ![v57.toNat, 0, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c4_i32_42 : BitVec 32 := 4#32
  let v56 : BitVec 32 := Scalar.muli v0 c4_i32_42
  let c0_i32_47 : BitVec 32 := 0#32
  let c0_i32_48 : BitVec 32 := 0#32
  ![v56.toNat, 0, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) (c0_i32_9 : BitVec 32) : Fin 3 → Nat :=
  let arg0 : BitVec 32 := BitVec.ofNat 32 (i 0).val
  let c2_i32 : BitVec 32 := 2#32
  let v0 : BitVec 32 := Scalar.remsi arg0 c2_i32
  let c4_i32_8 : BitVec 32 := 4#32
  let v17 : BitVec 32 := Scalar.muli v0 c4_i32_8
  let v18 : BitVec 32 := Scalar.addi v17 c0_i32_9
  let c0_i32_11 : BitVec 32 := 0#32
  let c0_i32_12 : BitVec 32 := 0#32
  ![v18.toNat, 0, 0]
def k0_off6 (i : grid0.Coords) (c0_i32_7 : BitVec 32) : Fin 4 → Nat :=
  let arg0 : BitVec 32 := BitVec.ofNat 32 (i 0).val
  let c4_i32 : BitVec 32 := 4#32
  let v15 : BitVec 32 := Scalar.muli arg0 c4_i32
  let v16 : BitVec 32 := Scalar.addi v15 c0_i32_7
  let c0_i32_10 : BitVec 32 := 0#32
  let c0_i32_13 : BitVec 32 := 0#32
  let c0_i32_14 : BitVec 32 := 0#32
  ![v16.toNat, 0, 0, 0]
def k0_cond3 (i : grid0.Coords) : BitVec 1 :=
  let arg0 : BitVec 32 := BitVec.ofNat 32 (i 0).val
  let c1_i32 : BitVec 32 := 1#32
  let v4 : BitVec 32 := Scalar.subi arg0 c1_i32
  let c0_i32_1 : BitVec 32 := 0#32
  let v6 : BitVec 1 := Scalar.cmpi .sge v4 c0_i32_1
  let v7 : BitVec 32 := Scalar.extui v6
  let c0_i32_2 : BitVec 32 := 0#32
  let v8 : BitVec 1 := Scalar.cmpi .ne v7 c0_i32_2
  v8

def k0_off7 (i : grid0.Coords) : Fin 1 → Nat :=
  let arg0 : BitVec 32 := BitVec.ofNat 32 (i 0).val
  let c1_i32 : BitVec 32 := 1#32
  let v4 : BitVec 32 := Scalar.subi arg0 c1_i32
  let c2_i32_0 : BitVec 32 := 2#32
  let v5 : BitVec 32 := Scalar.remsi v4 c2_i32_0
  ![v5.toNat]
def k0_off8 (i : grid0.Coords) : Fin 3 → Nat :=
  let arg0 : BitVec 32 := BitVec.ofNat 32 (i 0).val
  let c1_i32 : BitVec 32 := 1#32
  let v4 : BitVec 32 := Scalar.subi arg0 c1_i32
  let c2_i32_0 : BitVec 32 := 2#32
  let v5 : BitVec 32 := Scalar.remsi v4 c2_i32_0
  let c4_i32_5 : BitVec 32 := 4#32
  let v13 : BitVec 32 := Scalar.muli v5 c4_i32_5
  let c0_i32_7 : BitVec 32 := 0#32
  let c0_i32_8 : BitVec 32 := 0#32
  ![v13.toNat, 0, 0]
def k0_off9 (i : grid0.Coords) : Fin 4 → Nat :=
  let arg0 : BitVec 32 := BitVec.ofNat 32 (i 0).val
  let c1_i32 : BitVec 32 := 1#32
  let v4 : BitVec 32 := Scalar.subi arg0 c1_i32
  let c4_i32 : BitVec 32 := 4#32
  let v12 : BitVec 32 := Scalar.muli v4 c4_i32
  let c0_i32_6 : BitVec 32 := 0#32
  let c0_i32_9 : BitVec 32 := 0#32
  let c0_i32_10 : BitVec 32 := 0#32
  ![v12.toNat, 0, 0, 0]
def k0_off10 (i : grid0.Coords) (c0_i32_12 : BitVec 32) : Fin 3 → Nat :=
  let arg0 : BitVec 32 := BitVec.ofNat 32 (i 0).val
  let c1_i32 : BitVec 32 := 1#32
  let v4 : BitVec 32 := Scalar.subi arg0 c1_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v21 c0_i32_12
  let v25 : Index := Scalar.indexCast v22
  let c0 : Index := 0#32
  let c0_15 : Index := 0#32
  ![v25.toNat, 0, 0]
def k0_off11 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v33 : Index := Scalar.indexCast v24
  let c0_17 : Index := 0#32
  ![v33.toNat, 0]
def k0_off12 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v35 : Index := Scalar.indexCast v24
  let c1 : Index := 1#32
  ![v35.toNat, 1]
def k0_off13 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v37 : Index := Scalar.indexCast v24
  let c2 : Index := 2#32
  ![v37.toNat, 2]
def k0_off14 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v39 : Index := Scalar.indexCast v24
  let c3 : Index := 3#32
  ![v39.toNat, 3]
def k0_off15 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v41 : Index := Scalar.indexCast v24
  let c4 : Index := 4#32
  ![v41.toNat, 4]
def k0_off16 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v43 : Index := Scalar.indexCast v24
  let c5 : Index := 5#32
  ![v43.toNat, 5]
def k0_off17 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v45 : Index := Scalar.indexCast v24
  let c6 : Index := 6#32
  ![v45.toNat, 6]
def k0_off18 (i : grid0.Coords) (c0_i32_14 : BitVec 32) : Fin 2 → Nat :=
  let arg0 : BitVec 32 := BitVec.ofNat 32 (i 0).val
  let c1_i32 : BitVec 32 := 1#32
  let v4 : BitVec 32 := Scalar.subi arg0 c1_i32
  let c4_i32_13 : BitVec 32 := 4#32
  let v23 : BitVec 32 := Scalar.muli v4 c4_i32_13
  let v24 : BitVec 32 := Scalar.addi v23 c0_i32_14
  let v47 : Index := Scalar.indexCast v24
  let c7 : Index := 7#32
  ![v47.toNat, 7]
def k0_off19 (i : grid0.Coords) (c0_i32_76 : BitVec 32) : Fin 4 → Nat :=
  let arg0 : BitVec 32 := BitVec.ofNat 32 (i 0).val
  let c1_i32 : BitVec 32 := 1#32
  let v4 : BitVec 32 := Scalar.subi arg0 c1_i32
  let c4_i32_75 : BitVec 32 := 4#32
  let v251 : BitVec 32 := Scalar.muli v4 c4_i32_75
  let v252 : BitVec 32 := Scalar.addi v251 c0_i32_76
  let c0_i32_77 : BitVec 32 := 0#32
  let c0_i32_78 : BitVec 32 := 0#32
  let c0_i32_79 : BitVec 32 := 0#32
  ![v252.toNat, 0, 0, 0]
def k0_off20 (i : grid0.Coords) (c0_i32_74 : BitVec 32) : Fin 3 → Nat :=
  let arg0 : BitVec 32 := BitVec.ofNat 32 (i 0).val
  let c1_i32 : BitVec 32 := 1#32
  let v4 : BitVec 32 := Scalar.subi arg0 c1_i32
  let c2_i32_0 : BitVec 32 := 2#32
  let v5 : BitVec 32 := Scalar.remsi v4 c2_i32_0
  let c4_i32_73 : BitVec 32 := 4#32
  let v249 : BitVec 32 := Scalar.muli v5 c4_i32_73
  let v250 : BitVec 32 := Scalar.addi v249 c0_i32_74
  let c0_i32_80 : BitVec 32 := 0#32
  let c0_i32_81 : BitVec 32 := 0#32
  ![v250.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S64x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "inv_count" => some ((384000⁻¹ : ℝ) : EReal)
  | _ => none
-- ==== ReferenceIdeal.lean ====
abbrev S64x1x128x3000 : Shape := ⟨4, ![64, 1, 128, 3000]⟩
abbrev S64x1 : Shape := ⟨2, ![64, 1]⟩
abbrev S64x128 : Shape := ⟨2, ![64, 128]⟩
abbrev S_ : Shape := ⟨0, ![]⟩
abbrev S64x1x128x1 : Shape := ⟨4, ![64, 1, 128, 1]⟩
abbrev S64x3000 : Shape := ⟨2, ![64, 3000]⟩
abbrev S64x1x1x3000 : Shape := ⟨4, ![64, 1, 1, 3000]⟩
abbrev S64x1x1x1 : Shape := ⟨4, ![64, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x1x128x3000, .f32⟩
  | .hbm, ⟨1, _⟩ => ⟨S64x1, .i32⟩
  | .hbm, ⟨2, _⟩ => ⟨S64x1, .i32⟩
  | .hbm, ⟨3, _⟩ => ⟨S64x1, .i32⟩
  | .hbm, ⟨4, _⟩ => ⟨S64x1, .i32⟩
  | .hbm, ⟨5, _⟩ => ⟨S64x1, .i32⟩
  | .hbm, ⟨6, _⟩ => ⟨S64x1, .i32⟩
  | .hbm, ⟨7, _⟩ => ⟨S64x1, .i32⟩
  | .hbm, ⟨8, _⟩ => ⟨S64x1, .i32⟩
  | .hbm, ⟨9, _⟩ => ⟨S64x128, .i32⟩
  | .hbm, ⟨10, _⟩ => ⟨S64x128, .i32⟩
  | .hbm, ⟨11, _⟩ => ⟨S64x128, .i1⟩
  | .hbm, ⟨12, _⟩ => ⟨S64x1, .i32⟩
  | .hbm, ⟨13, _⟩ => ⟨S64x128, .i32⟩
  | .hbm, ⟨14, _⟩ => ⟨S64x128, .i1⟩
  | .hbm, ⟨15, _⟩ => ⟨S64x128, .i1⟩
  | .hbm, ⟨16, _⟩ => ⟨S_, .i1⟩
  | .hbm, ⟨17, _⟩ => ⟨S64x128, .i1⟩
  | .hbm, ⟨18, _⟩ => ⟨S64x128, .i1⟩
  | .hbm, ⟨19, _⟩ => ⟨S64x128, .i32⟩
  | .hbm, ⟨20, _⟩ => ⟨S64x128, .i1⟩
  | .hbm, ⟨21, _⟩ => ⟨S64x1, .i32⟩
  | .hbm, ⟨22, _⟩ => ⟨S64x128, .i32⟩
  | .hbm, ⟨23, _⟩ => ⟨S64x128, .i1⟩
  | .hbm, ⟨24, _⟩ => ⟨S64x128, .i1⟩
  | .hbm, ⟨25, _⟩ => ⟨S64x128, .i1⟩
  | .hbm, ⟨26, _⟩ => ⟨S64x1x128x1, .i1⟩
  | .hbm, ⟨27, _⟩ => ⟨S64x3000, .i32⟩
  | .hbm, ⟨28, _⟩ => ⟨S64x3000, .i32⟩
  | .hbm, ⟨29, _⟩ => ⟨S64x3000, .i1⟩
  | .hbm, ⟨30, _⟩ => ⟨S64x1, .i32⟩
  | .hbm, ⟨31, _⟩ => ⟨S64x3000, .i32⟩
  | .hbm, ⟨32, _⟩ => ⟨S64x3000, .i1⟩
  | .hbm, ⟨33, _⟩ => ⟨S64x3000, .i1⟩
  | .hbm, ⟨34, _⟩ => ⟨S_, .i1⟩
  | .hbm, ⟨35, _⟩ => ⟨S64x3000, .i1⟩
  | .hbm, ⟨36, _⟩ => ⟨S64x3000, .i1⟩
  | .hbm, ⟨37, _⟩ => ⟨S64x3000, .i32⟩
  | .hbm, ⟨38, _⟩ => ⟨S64x3000, .i1⟩
  | .hbm, ⟨39, _⟩ => ⟨S64x1, .i32⟩
  | .hbm, ⟨40, _⟩ => ⟨S64x3000, .i32⟩
  | .hbm, ⟨41, _⟩ => ⟨S64x3000, .i1⟩
  | .hbm, ⟨42, _⟩ => ⟨S64x3000, .i1⟩
  | .hbm, ⟨43, _⟩ => ⟨S64x3000, .i1⟩
  | .hbm, ⟨44, _⟩ => ⟨S64x1x1x3000, .i1⟩
  | .hbm, ⟨45, _⟩ => ⟨S64x1x128x3000, .i1⟩
  | .hbm, ⟨46, _⟩ => ⟨S64x1x128x3000, .i1⟩
  | .hbm, ⟨47, _⟩ => ⟨S64x1x128x3000, .i1⟩
  | .hbm, ⟨48, _⟩ => ⟨S_, .f32⟩
  | .hbm, ⟨49, _⟩ => ⟨S64x1, .f32⟩
  | .hbm, ⟨50, _⟩ => ⟨S64x1x1x1, .f32⟩
  | .hbm, ⟨51, _⟩ => ⟨S_, .f32⟩
  | .hbm, ⟨52, _⟩ => ⟨S64x1x1x1, .f32⟩
  | .hbm, ⟨53, _⟩ => ⟨S64x1x1x1, .f32⟩
  | .hbm, ⟨54, _⟩ => ⟨S64x1x128x3000, .f32⟩
  | .hbm, ⟨55, _⟩ => ⟨S64x1x128x3000, .f32⟩
  | _, _ => ⟨S64x1x128x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_7 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_8 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.IdealBase.lean ====
/-
  The names the certificate of the kernel is stated in: a slot of the scratch buffer, a sample's row of the input and of
  the output, the two semaphores of each direction, each as a function of its number, and the equations that bring the
  body's own slices to them.

  The kernel treats its 64 samples in 16 groups of four. The scratch buffer holds eight samples: two halves of four slots.
  At grid point `s` the body starts the four loads of group `s` into half `s % 2` and processes group `s - 1` in the other
  half.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Batch
public import Idealize.ShloMosaic.Lib.Affine
public import Idealize.ShloMosaic.Lib.Tactic
public import Idealize.ShloMosaic.Lib.Tactic.Stretches

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The buffers and the numbers -/

abbrev xM : Memref sig .tc .hbm S64x1x3000x128 .f32 := Memref.whole main_v0
abbrev oM : Memref sig .tc .hbm S64x1x3000x128 .f32 := Memref.whole main_v1
abbrev bufM : Memref sig .tc .vmem S8x3000x128 .f32 := Memref.whole cc0_scratch0

/-- The half that group `n` uses. -/
abbrev hf (n : ℕ) : Fin 2 := Fin.ofNat 2 n
/-- Group `n`. -/
abbrev gp (n : ℕ) : Fin 16 := Fin.ofNat 16 n

abbrev slotOff (h : Fin 2) (r : Fin 4) : Fin 3 → Nat := ![4 * h.val + r.val, 0, 0]
theorem slotOff_inb (h : Fin 2) (r : Fin 4) : ∀ a, slotOff h r a + S1x3000x128.size a ≤ S8x3000x128.size a := by
  have := h.isLt; have := r.isLt; intro a; fin_cases a
  · show 4 * h.val + r.val + 1 ≤ 8; omega
  · show 0 + 3000 ≤ 3000; omega
  · show 0 + 128 ≤ 128; omega
abbrev rowOff (g : Fin 16) (r : Fin 4) : Fin 4 → Nat := ![4 * g.val + r.val, 0, 0, 0]
theorem rowOff_inb (g : Fin 16) (r : Fin 4) : ∀ a, rowOff g r a + S1x1x3000x128.size a ≤ S64x1x3000x128.size a := by
  have := g.isLt; have := r.isLt; intro a; fin_cases a
  · show 4 * g.val + r.val + 1 ≤ 64; omega
  · show 0 + 1 ≤ 1; omega
  · show 0 + 3000 ≤ 3000; omega
  · show 0 + 128 ≤ 128; omega
abbrev semOff (h : Fin 2) : Fin 1 → Nat := ![h.val]
theorem semOff_inb (h : Fin 2) : ∀ a, semOff h a + S1.size a ≤ S2.size a := by
  have := h.isLt; intro a; fin_cases a; show h.val + 1 ≤ 2; omega

/-- Slot `r` of half `h`. -/
def slotAt (h : Fin 2) (r : Fin 4) : Memref sig .tc .vmem S3000x128 .f32 :=
  (bufM.slice (Rect.unit (s := S8x3000x128) (slotOff h r) S1x3000x128.size (slotOff_inb h r)) (fun _ => rfl)).squeeze S3000x128 squeezes_S1x3000x128_S3000x128
/-- Sample `r` of group `g` in the input. -/
def xrow (g : Fin 16) (r : Fin 4) : Memref sig .tc .hbm S3000x128 .f32 :=
  (xM.slice (Rect.unit (s := S64x1x3000x128) (rowOff g r) S1x1x3000x128.size (rowOff_inb g r)) (fun _ => rfl)).squeeze S3000x128 squeezes_S1x1x3000x128_S3000x128
/-- Sample `r` of group `g` in the output. -/
def orow (g : Fin 16) (r : Fin 4) : Memref sig .tc .hbm S3000x128 .f32 :=
  (oM.slice (Rect.unit (s := S64x1x3000x128) (rowOff g r) S1x1x3000x128.size (rowOff_inb g r)) (fun _ => rfl)).squeeze S3000x128 squeezes_S1x1x3000x128_S3000x128
/-- The semaphore of half `h`'s loads. -/
def ldsem (h : Fin 2) : DmaSems sig S_ := (cc0_scratch1.slice (Rect.unit (s := S2) (semOff h) S1.size (semOff_inb h))).squeeze S_ squeezes_S1_S_
/-- The semaphore of half `h`'s stores. -/
def stsem (h : Fin 2) : DmaSems sig S_ := (cc0_scratch2.slice (Rect.unit (s := S2) (semOff h) S1.size (semOff_inb h))).squeeze S_ squeezes_S1_S_

instance (h : Fin 2) (r : Fin 4) : ClosedOff (slotOff h r) := ⟨slotOff h r, rfl⟩
instance (g : Fin 16) (r : Fin 4) : ClosedOff (rowOff g r) := ⟨rowOff g r, rfl⟩

/-! ## The body's offsets in closed form -/

theorem off1_eq : ∀ i : grid0.Coords, k0_off1 i = semOff (hf (i 0).val) := by decide +kernel
theorem off4_eq : ∀ i : grid0.Coords, k0_off4 i = semOff (hf (i 0).val) := by decide +kernel
theorem off5_eq : ∀ i : grid0.Coords, ∀ r : Fin 4, k0_off5 i (BitVec.ofNat 32 r.val) = slotOff (hf (i 0).val) r := by decide +kernel
theorem off6_eq : ∀ i : grid0.Coords, k0_cond1 i = 1#1 → ∀ r : Fin 4, k0_off6 i (BitVec.ofNat 32 r.val) = rowOff (gp (i 0).val) r := by decide +kernel
theorem off7_eq : ∀ i : grid0.Coords, k0_cond3 i = 1#1 → k0_off7 i = semOff (hf ((i 0).val - 1)) := by decide +kernel
theorem off10_eq : ∀ i : grid0.Coords, k0_cond3 i = 1#1 → ∀ r : Fin 4, k0_off10 i (BitVec.ofNat 32 r.val) = slotOff (hf ((i 0).val - 1)) r := by decide +kernel
theorem off19_eq : ∀ i : grid0.Coords, k0_cond3 i = 1#1 → ∀ r : Fin 4, k0_off19 i (BitVec.ofNat 32 r.val) = rowOff (gp ((i 0).val - 1)) r := by decide +kernel
theorem off20_eq : ∀ i : grid0.Coords, k0_cond3 i = 1#1 → ∀ r : Fin 4, k0_off20 i (BitVec.ofNat 32 r.val) = slotOff (hf ((i 0).val - 1)) r := by decide +kernel

/-- The conditions, as the point's number. -/
theorem cond1_iff : ∀ i : grid0.Coords, k0_cond1 i = 1#1 ↔ (i 0).val < 16 := by decide +kernel
theorem cond2_iff : ∀ i : grid0.Coords, k0_cond2 i = 1#1 ↔ 2 ≤ (i 0).val := by decide +kernel
theorem cond4_iff : ∀ i : grid0.Coords, Scalar.cmpi .ne (Scalar.extui (Scalar.cmpi .eq (BitVec.ofNat 32 (i 0).val) 16#32) : BitVec 32) 0#32 = 1#1 ↔ (i 0).val = 16 := by decide +kernel
theorem cond3_iff : ∀ i : grid0.Coords, k0_cond3 i = 1#1 ↔ 1 ≤ (i 0).val := by decide +kernel

/-! ## The body's slices are the names -/

private theorem slot_congr {off : Fin 3 → Nat} {h : Fin 2} {r : Fin 4} (e : off = slotOff h r) (hh hs) :
    (bufM.slice (Rect.unit (s := S8x3000x128) off S1x3000x128.size hh) hs).squeeze S3000x128 squeezes_S1x3000x128_S3000x128 = slotAt h r :=
  congrArg (fun M : Memref sig .tc .vmem S1x3000x128 .f32 => M.squeeze S3000x128 squeezes_S1x3000x128_S3000x128) (Memref.slice_unit_congr _ e _ _ _ _)
private theorem xrow_congr {off : Fin 4 → Nat} {g : Fin 16} {r : Fin 4} (e : off = rowOff g r) (hh hs) :
    (xM.slice (Rect.unit (s := S64x1x3000x128) off S1x1x3000x128.size hh) hs).squeeze S3000x128 squeezes_S1x1x3000x128_S3000x128 = xrow g r :=
  congrArg (fun M : Memref sig .tc .hbm S1x1x3000x128 .f32 => M.squeeze S3000x128 squeezes_S1x1x3000x128_S3000x128) (Memref.slice_unit_congr _ e _ _ _ _)
private theorem orow_congr {off : Fin 4 → Nat} {g : Fin 16} {r : Fin 4} (e : off = rowOff g r) (hh hs) :
    (oM.slice (Rect.unit (s := S64x1x3000x128) off S1x1x3000x128.size hh) hs).squeeze S3000x128 squeezes_S1x1x3000x128_S3000x128 = orow g r :=
  congrArg (fun M : Memref sig .tc .hbm S1x1x3000x128 .f32 => M.squeeze S3000x128 squeezes_S1x1x3000x128_S3000x128) (Memref.slice_unit_congr _ e _ _ _ _)
private theorem ldsem_congr {off : Fin 1 → Nat} {h : Fin 2} (e : off = semOff h) (hh) :
    (cc0_scratch1.slice (Rect.unit (s := S2) off S1.size hh)).squeeze S_ squeezes_S1_S_ = ldsem h :=
  congrArg (fun A : DmaSems sig S1 => A.squeeze S_ squeezes_S1_S_) (SemArray.slice_unit_congr _ e _ _)
private theorem stsem_congr {off : Fin 1 → Nat} {h : Fin 2} (e : off = semOff h) (hh) :
    (cc0_scratch2.slice (Rect.unit (s := S2) off S1.size hh)).squeeze S_ squeezes_S1_S_ = stsem h :=
  congrArg (fun A : DmaSems sig S1 => A.squeeze S_ squeezes_S1_S_) (SemArray.slice_unit_congr _ e _ _)

section Canon
variable (i : grid0.Coords)

@[sl_canon] theorem sem1 (hh) : (cc0_scratch2.slice (Rect.unit (s := S2) (k0_off1 i) S1.size hh)).squeeze S_ squeezes_S1_S_ = stsem (hf (i 0).val) := stsem_congr (off1_eq i) _
@[sl_canon] theorem sem4 (hh) : (cc0_scratch1.slice (Rect.unit (s := S2) (k0_off4 i) S1.size hh)).squeeze S_ squeezes_S1_S_ = ldsem (hf (i 0).val) := ldsem_congr (off4_eq i) _
@[sl_canon] theorem sem7l (h3 : k0_cond3 i = 1#1) (hh) : (cc0_scratch1.slice (Rect.unit (s := S2) (k0_off7 i) S1.size hh)).squeeze S_ squeezes_S1_S_ = ldsem (hf ((i 0).val - 1)) := ldsem_congr (off7_eq i h3) _
@[sl_canon] theorem sem7s (h3 : k0_cond3 i = 1#1) (hh) : (cc0_scratch2.slice (Rect.unit (s := S2) (k0_off7 i) S1.size hh)).squeeze S_ squeezes_S1_S_ = stsem (hf ((i 0).val - 1)) := stsem_congr (off7_eq i h3) _
@[sl_canon] theorem semL0 (hh) : (cc0_scratch2.slice (Rect.unit (s := S2) ![0] S1.size hh)).squeeze S_ squeezes_S1_S_ = stsem 0 := stsem_congr (by decide) _
@[sl_canon] theorem semL1 (hh) : (cc0_scratch2.slice (Rect.unit (s := S2) ![1] S1.size hh)).squeeze S_ squeezes_S1_S_ = stsem 1 := stsem_congr (by decide) _

@[sl_canon] theorem slot5_0 (hh hs) : (bufM.slice (Rect.unit (s := S8x3000x128) (k0_off5 i 0#32) S1x3000x128.size hh) hs).squeeze S3000x128 squeezes_S1x3000x128_S3000x128 = slotAt (hf (i 0).val) 0 := slot_congr (off5_eq i 0) _ _
@[sl_canon] theorem slot5_1 (hh hs) : (bufM.slice (Rect.unit (s := S8x3000x128) (k0_off5 i 1#32) S1x3000x128.size hh) hs).squeeze S3000x128 squeezes_S1x3000x128_S3000x128 = slotAt (hf (i 0).val) 1 := slot_congr (off5_eq i 1) _ _
@[sl_canon] theorem slot5_2 (hh hs) : (bufM.slice (Rect.unit (s := S8x3000x128) (k0_off5 i 2#32) S1x3000x128.size hh) hs).squeeze S3000x128 squeezes_S1x3000x128_S3000x128 = slotAt (hf (i 0).val) 2 := slot_congr (off5_eq i 2) _ _
@[sl_canon] theorem slot5_3 (hh hs) : (bufM.slice (Rect.unit (s := S8x3000x128) (k0_off5 i 3#32) S1x3000x128.size hh) hs).squeeze S3000x128 squeezes_S1x3000x128_S3000x128 = slotAt (hf (i 0).val) 3 := slot_congr (off5_eq i 3) _ _
@[sl_canon] theorem slot20_0 (h3 : k0_cond3 i = 1#1) (hh hs) : (bufM.slice (Rect.unit (s := S8x3000x128) (k0_off20 i 0#32) S1x3000x128.size hh) hs).squeeze S3000x128 squeezes_S1x3000x128_S3000x128 = slotAt (hf ((i 0).val - 1)) 0 := slot_congr (off20_eq i h3 0) _ _
@[sl_canon] theorem slot20_1 (h3 : k0_cond3 i = 1#1) (hh hs) : (bufM.slice (Rect.unit (s := S8x3000x128) (k0_off20 i 1#32) S1x3000x128.size hh) hs).squeeze S3000x128 squeezes_S1x3000x128_S3000x128 = slotAt (hf ((i 0).val - 1)) 1 := slot_congr (off20_eq i h3 1) _ _
@[sl_canon] theorem slot20_2 (h3 : k0_cond3 i = 1#1) (hh hs) : (bufM.slice (Rect.unit (s := S8x3000x128) (k0_off20 i 2#32) S1x3000x128.size hh) hs).squeeze S3000x128 squeezes_S1x3000x128_S3000x128 = slotAt (hf ((i 0).val - 1)) 2 := slot_congr (off20_eq i h3 2) _ _
@[sl_canon] theorem slot20_3 (h3 : k0_cond3 i = 1#1) (hh hs) : (bufM.slice (Rect.unit (s := S8x3000x128) (k0_off20 i 3#32) S1x3000x128.size hh) hs).squeeze S3000x128 squeezes_S1x3000x128_S3000x128 = slotAt (hf ((i 0).val - 1)) 3 := slot_congr (off20_eq i h3 3) _ _

@[sl_canon] theorem row6_0 (h1 : k0_cond1 i = 1#1) (hh hs) : (xM.slice (Rect.unit (s := S64x1x3000x128) (k0_off6 i 0#32) S1x1x3000x128.size hh) hs).squeeze S3000x128 squeezes_S1x1x3000x128_S3000x128 = xrow (gp (i 0).val) 0 := xrow_congr (off6_eq i h1 0) _ _
@[sl_canon] theorem row6_1 (h1 : k0_cond1 i = 1#1) (hh hs) : (xM.slice (Rect.unit (s := S64x1x3000x128) (k0_off6 i 1#32) S1x1x3000x128.size hh) hs).squeeze S3000x128 squeezes_S1x1x3000x128_S3000x128 = xrow (gp (i 0).val) 1 := xrow_congr (off6_eq i h1 1) _ _
@[sl_canon] theorem row6_2 (h1 : k0_cond1 i = 1#1) (hh hs) : (xM.slice (Rect.unit (s := S64x1x3000x128) (k0_off6 i 2#32) S1x1x3000x128.size hh) hs).squeeze S3000x128 squeezes_S1x1x3000x128_S3000x128 = xrow (gp (i 0).val) 2 := xrow_congr (off6_eq i h1 2) _ _
@[sl_canon] theorem row6_3 (h1 : k0_cond1 i = 1#1) (hh hs) : (xM.slice (Rect.unit (s := S64x1x3000x128) (k0_off6 i 3#32) S1x1x3000x128.size hh) hs).squeeze S3000x128 squeezes_S1x1x3000x128_S3000x128 = xrow (gp (i 0).val) 3 := xrow_congr (off6_eq i h1 3) _ _
@[sl_canon] theorem row19_0 (h3 : k0_cond3 i = 1#1) (hh hs) : (oM.slice (Rect.unit (s := S64x1x3000x128) (k0_off19 i 0#32) S1x1x3000x128.size hh) hs).squeeze S3000x128 squeezes_S1x1x3000x128_S3000x128 = orow (gp ((i 0).val - 1)) 0 := orow_congr (off19_eq i h3 0) _ _
@[sl_canon] theorem row19_1 (h3 : k0_cond3 i = 1#1) (hh hs) : (oM.slice (Rect.unit (s := S64x1x3000x128) (k0_off19 i 1#32) S1x1x3000x128.size hh) hs).squeeze S3000x128 squeezes_S1x1x3000x128_S3000x128 = orow (gp ((i 0).val - 1)) 1 := orow_congr (off19_eq i h3 1) _ _
@[sl_canon] theorem row19_2 (h3 : k0_cond3 i = 1#1) (hh hs) : (oM.slice (Rect.unit (s := S64x1x3000x128) (k0_off19 i 2#32) S1x1x3000x128.size hh) hs).squeeze S3000x128 squeezes_S1x1x3000x128_S3000x128 = orow (gp ((i 0).val - 1)) 2 := orow_congr (off19_eq i h3 2) _ _
@[sl_canon] theorem row19_3 (h3 : k0_cond3 i = 1#1) (hh hs) : (oM.slice (Rect.unit (s := S64x1x3000x128) (k0_off19 i 3#32) S1x1x3000x128.size hh) hs).squeeze S3000x128 squeezes_S1x1x3000x128_S3000x128 = orow (gp ((i 0).val - 1)) 3 := orow_congr (off19_eq i h3 3) _ _

end Canon

/-! ## The windows the body loads and stores through the whole buffer -/

/-- A box of the buffer at a slot's offsets lies in the slot. -/
theorem access_slot {off : Fin 3 → Nat} {h : Fin 2} {r : Fin 4} (e : off = slotOff h r) (hh) :
    (bufM.access (Rect.unit (s := S8x3000x128) off S1x3000x128.size hh)).set ⊆ (slotAt h r).view.set := by
  subst e
  exact (View.set_reshape _ _).symm.subset

theorem access_slot_on {off : Fin 3 → Nat} {h : Fin 2} {r : Fin 4} (e : off = slotOff h r) (hh) :
    (bufM.access (Rect.unit (s := S8x3000x128) off S1x3000x128.size hh)).setOn Finset.univ ⊆ (slotAt h r).view.set :=
  access_slot e hh

/-! ## The body cut in three: the loads' start, the processing, the drain -/

cut_chain bd := cc0__body_skel at 2, 3

end Cert.KernelIdeal.Hand

end
-- ==== Proof.IdealBody.lean ====
/-
  The kernel's body run at one grid point, in its three stretches.

  `issue_*` runs the first: the wait for the stores that last used the half, when there are any, and the start of the four
  loads of the point's group. the second: the one wait for the four loads of the group before, the four
  samples filled in place, and the start of their four stores. `drain_*` runs the third: the last two waits.
-/
module

public import proofs.«01_k».proof.Proof.IdealBase
public import Idealize.ShloMosaic.Lib.Pipeline.FrameSuffixV
public import Idealize.ShloMosaic.Lib.Pipeline.Value
public import Idealize.ShloMosaic.Lib.ValueIdxCore

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## What the core holds -/

section Pieces
variable (c : Dev nD)

abbrev XBuf (c : Dev nD) : Type := Buf (Elt F) (xM.view.loc (c : Thread nD τ))
abbrev OBuf (c : Dev nD) : Type := Buf (Elt F) (oM.view.loc (c : Thread nD τ))
abbrev SBuf (c : Dev nD) : Type := Buf (Elt F) (bufM.view.loc (c : Thread nD τ))

/-- Slot `r` of half `h` held at `f`; -/
abbrev slotP (h : Fin 2) (r : Fin 4) (f : SBuf (F := F) c) : sProp 𝕄 := (slotAt h r).view.loc (c : Thread nD τ) ↦[(slotAt h r).view.set]{fullShare} f
/-- sample `r` of group `g` of the input held at `f`; -/
abbrev xP (g : Fin 16) (r : Fin 4) (f : XBuf (F := F) c) : sProp 𝕄 := (xrow g r).view.loc (c : Thread nD τ) ↦[(xrow g r).view.set]{fullShare} f
/-- the same of the output; -/
abbrev oP (g : Fin 16) (r : Fin 4) (f : OBuf (F := F) c) : sProp 𝕄 := (orow g r).view.loc (c : Thread nD τ) ↦[(orow g r).view.set]{fullShare} f
/-- the loads' and the stores' counters at zero. -/
abbrev ldZ (h : Fin 2) : sProp 𝕄 := semVal ((c : Thread nD τ), SemLoc.dma (ldsem h).sem) 0
abbrev stZ (h : Fin 2) : sProp 𝕄 := semVal ((c : Thread nD τ), SemLoc.dma (stsem h).sem) 0

/-- A slot into which sample `r` of group `g` has been loaded. -/
abbrev loaded (X : XBuf (F := F) c) (h : Fin 2) (g : Fin 16) (r : Fin 4) : SBuf (F := F) c :=
  (slotAt h r).view.writes (Elt F) (slotAt h r).view.junk [⟨Rect.whole S3000x128, ReadAs.same.apply ((xrow g r).view.read (Elt F) X)⟩]
/-- An output row into which a slot holding `f` has been stored. -/
abbrev stored (h : Fin 2) (g : Fin 16) (r : Fin 4) (f : SBuf (F := F) c) : OBuf (F := F) c :=
  (orow g r).view.writes (Elt F) (orow g r).view.junk [⟨Rect.whole S3000x128, ReadAs.same.apply ((slotAt h r).view.read (Elt F) f)⟩]

/-- What load `r` of group `g` delivers: the slot loaded and the input's row back. -/
def ldD (X : XBuf (F := F) c) (h : Fin 2) (g : Fin 16) (r : Fin 4) : sProp 𝕄 := iprop(slotP c h r (loaded c X h g r) ∗ xP c g r X)
/-- What store `r` of group `g` delivers: the output's row stored and the slot back. -/
def stD (h : Fin 2) (g : Fin 16) (f : Fin 4 → SBuf (F := F) c) (r : Fin 4) : sProp 𝕄 := iprop(oP c g r (stored c h g r (f r)) ∗ slotP c h r (f r))

set_option backward.isDefEq.respectTransparency.types false in
instance (X : XBuf (F := F) c) (h : Fin 2) (g : Fin 16) (r : Fin 4) : Storable (upEmb : UEmb _ 𝕄) (ldD c X h g r) := by unfold ldD slotP xP; infer_instance
set_option backward.isDefEq.respectTransparency.types false in
instance (h : Fin 2) (g : Fin 16) (f : Fin 4 → SBuf (F := F) c) (r : Fin 4) : Storable (upEmb : UEmb _ 𝕄) (stD c h g f r) := by unfold stD slotP oP; infer_instance

/-- One transfer's units. -/
abbrev NL : ℕ := (slotAt 0 0).view.amount (SemLoc.dma (ldsem 0).sem)
abbrev NS : ℕ := (orow 0 0).view.amount (SemLoc.dma (stsem 0).sem)

/-- The four loads of group `g` into half `h`, `k` of them started. -/
abbrev ldB (X : XBuf (F := F) c) (h : Fin 2) (g : Fin 16) (k : ℕ) : sProp 𝕄 :=
  Transfers.Batch (countersEmb (U := Pipeline.UD sig nD τ)) (c : Thread nD τ) (SemLoc.dma (ldsem h).sem) () NL (ldD c X h g) k 0
/-- The four stores of group `g` out of half `h`, `k` of them started. -/
abbrev stB (h : Fin 2) (g : Fin 16) (f : Fin 4 → SBuf (F := F) c) (k : ℕ) : sProp 𝕄 :=
  Transfers.Batch (countersEmb (U := Pipeline.UD sig nD τ)) (c : Thread nD τ) (SemLoc.dma (stsem h).sem) () NS (stD c h g f) k 0

end Pieces

/-! ## What a sample becomes -/

/-- The sample's mean, as the kernel computes it. -/
def fillOf (x : FVec F S3000x128 .f32) : F .f32 :=
  Scalar.mulf (extractAt ![0, 0, 0] (shapeCast S1x1x1 (multiReduction .add [1, 2] S1 (shapeCast S1x3000x128 x shapeCasts_S3000x128_S1x3000x128)
    0x00000000#32 reduces_S1x3000x128_S1 (.inl rfl) rfl) shapeCasts_S1_S1x1x1) inpos_S1x1x1_p0_0_0) (Named.named κ "inv_count" 0x362EC33E#32)

/-- Where a coordinate lies in one of two bands. -/
def bands (v : IVec S3000x128 32) (a0 a1 b0 b1 : Elt F .i32) : IVec S3000x128 1 :=
  ori (andi (cmpi .sge v (broadcast S3000x128 a0)) (cmpi .slt v (broadcast S3000x128 a1)))
    (andi (cmpi .sge v (broadcast S3000x128 b0)) (cmpi .slt v (broadcast S3000x128 b1)))

/-- A sample with the mean in its two frequency bands and its two time bands. -/
def fillRow (x : FVec F S3000x128 .f32) (b : Fin 8 → Elt F .i32) : FVec F S3000x128 .f32 :=
  select (ori (bands (F := F) (iota .tc S3000x128 32 [1] iota_S3000x128_d1_w32) (b 0) (b 1) (b 2) (b 3))
      (bands (F := F) (iota .tc S3000x128 32 [0] iota_S3000x128_d0_w32) (b 4) (b 5) (b 6) (b 7)))
    (broadcast S3000x128 (fillOf x)) x

/-- Sample `r` of group `g`. -/
abbrev smp (g : Fin 16) (r : Fin 4) : Fin 64 := ⟨4 * g.val + r.val, by have := g.isLt; have := r.isLt; omega⟩

omit [FloatOps F] [Named F] in
private theorem word_eq {κ' : Kind} (arg1 : Memref sig κ' .smem S64x8 .i32) (B : arg1.view.ty.Contents (Elt F)) {off : Fin 2 → Nat} {j : Fin 64} {k : Fin 8}
    (e : off = ![j.val, k.val]) (p) (h) :
    arg1.view.readAt (Elt F) (Rect.unit (s := S64x8) off S1x1.size p).toLoadRect B (Shape.Idx.first h) = arg1.view.read (Elt F) B (ValueIdx.ix2 j k) := by
  subst e
  show arg1.view.read (Elt F) B ((Rect.unit (s := S64x8) ![j.val, k.val] S1x1.size p).emb (Shape.Idx.first h)) = _
  refine congrArg _ (funext fun a => Fin.ext ?_)
  fin_cases a <;> rfl

omit [FloatOps F] [Named F] in
/-- A loaded slot, read through the buffer at any spelling of its offset. -/
private theorem slot_load {off : Fin 3 → Nat} {h : Fin 2} {r : Fin 4} (e : off = slotOff h r) (p) (f : (slotAt h r).view.ty.Contents (Elt F)) (w : S3000x128.Idx → Elt F .f32) :
    shapeCast S3000x128 (bufM.view.readAt (Elt F) (Rect.unit (s := S8x3000x128) off S1x3000x128.size p).toLoadRect
      ((slotAt h r).view.writes (Elt F) f [⟨Rect.whole S3000x128, w⟩])) shapeCasts_S1x3000x128_S3000x128 = w := by
  subst e
  exact View.read_writes_whole (slotAt h r).view f w

omit [FloatOps F] [Named F] in
/-- A slot stored through the buffer at any spelling of its offset, read back. -/
private theorem slot_store {off : Fin 3 → Nat} {h : Fin 2} {r : Fin 4} (e : off = slotOff h r) (p) (f : bufM.view.ty.Contents (Elt F)) (w : S3000x128.Idx → Elt F .f32) :
    (slotAt h r).view.read (Elt F) ((bufM.access (Rect.unit (s := S8x3000x128) off S1x3000x128.size p)).write (Elt F) f
      (shapeCast S1x3000x128 w shapeCasts_S3000x128_S1x3000x128) Finset.univ) = w := by
  subst e
  show shapeCast S3000x128 ((bufM.access (Rect.unit (s := S8x3000x128) (slotOff h r) S1x3000x128.size p)).read (Elt F) _) shapeCasts_S1x3000x128_S3000x128 = w
  rw [View.read_write_univ]
  exact shapeCast_shapeCast _ _ _

theorem off11_eq : ∀ i : grid0.Coords, k0_cond3 i = 1#1 → ∀ r : Fin 4, k0_off11 i (BitVec.ofNat 32 r.val) = ![(smp (gp ((i 0).val - 1)) r).val, (0 : Fin 8).val] := by decide +kernel
theorem off12_eq : ∀ i : grid0.Coords, k0_cond3 i = 1#1 → ∀ r : Fin 4, k0_off12 i (BitVec.ofNat 32 r.val) = ![(smp (gp ((i 0).val - 1)) r).val, (1 : Fin 8).val] := by decide +kernel
theorem off13_eq : ∀ i : grid0.Coords, k0_cond3 i = 1#1 → ∀ r : Fin 4, k0_off13 i (BitVec.ofNat 32 r.val) = ![(smp (gp ((i 0).val - 1)) r).val, (2 : Fin 8).val] := by decide +kernel
theorem off14_eq : ∀ i : grid0.Coords, k0_cond3 i = 1#1 → ∀ r : Fin 4, k0_off14 i (BitVec.ofNat 32 r.val) = ![(smp (gp ((i 0).val - 1)) r).val, (3 : Fin 8).val] := by decide +kernel
theorem off15_eq : ∀ i : grid0.Coords, k0_cond3 i = 1#1 → ∀ r : Fin 4, k0_off15 i (BitVec.ofNat 32 r.val) = ![(smp (gp ((i 0).val - 1)) r).val, (4 : Fin 8).val] := by decide +kernel
theorem off16_eq : ∀ i : grid0.Coords, k0_cond3 i = 1#1 → ∀ r : Fin 4, k0_off16 i (BitVec.ofNat 32 r.val) = ![(smp (gp ((i 0).val - 1)) r).val, (5 : Fin 8).val] := by decide +kernel
theorem off17_eq : ∀ i : grid0.Coords, k0_cond3 i = 1#1 → ∀ r : Fin 4, k0_off17 i (BitVec.ofNat 32 r.val) = ![(smp (gp ((i 0).val - 1)) r).val, (6 : Fin 8).val] := by decide +kernel
theorem off18_eq : ∀ i : grid0.Coords, k0_cond3 i = 1#1 → ∀ r : Fin 4, k0_off18 i (BitVec.ofNat 32 r.val) = ![(smp (gp ((i 0).val - 1)) r).val, (7 : Fin 8).val] := by decide +kernel

/-- What sample `r` of group `g` becomes, over the table's rows and the input. -/
def filledRow (c : Dev nD) (X : XBuf (F := F) c) (T : S64x8.Idx → Elt F .i32) (g : Fin 16) (r : Fin 4) : FVec F S3000x128 .f32 :=
  fillRow ((xrow g r).view.read (Elt F) X) (fun k => T (ValueIdx.ix2 (smp g r) k))

/-- A loaded slot, as the body reads it; -/
abbrev slotVec (c : Dev nD) (i : grid0.Coords) (h3 : k0_cond3 i = 1#1) (X : XBuf (F := F) c) (r : Fin 4) : FVec F S3000x128 .f32 :=
  shapeCast S3000x128 (bufM.view.readAt (Elt F) (Rect.unit (s := S8x3000x128) (k0_off10 i (BitVec.ofNat 32 r.val)) S1x3000x128.size (k0_off10_inb i h3 r)).toLoadRect
    (loaded c X (hf ((i 0).val - 1)) (gp ((i 0).val - 1)) r)) shapeCasts_S1x3000x128_S3000x128
/-- and its eight bounds. -/
abbrev wordVec (c : Dev nD) (i : grid0.Coords) (h3 : k0_cond3 i = 1#1) (arg1 : Memref sig .tc .smem S64x8 .i32) (B : Buf (Elt F) (arg1.view.loc (c : Thread nD τ))) (r : Fin 4) : Fin 8 → Elt F .i32 :=
  ![arg1.view.readAt (Elt F) (Rect.unit (s := S64x8) (k0_off11 i (BitVec.ofNat 32 r.val)) S1x1.size (k0_off11_inb i h3 r)).toLoadRect B (Shape.Idx.first (numel1_S1x1.symm ▸ Nat.one_pos)),
    arg1.view.readAt (Elt F) (Rect.unit (s := S64x8) (k0_off12 i (BitVec.ofNat 32 r.val)) S1x1.size (k0_off12_inb i h3 r)).toLoadRect B (Shape.Idx.first (numel1_S1x1.symm ▸ Nat.one_pos)),
    arg1.view.readAt (Elt F) (Rect.unit (s := S64x8) (k0_off13 i (BitVec.ofNat 32 r.val)) S1x1.size (k0_off13_inb i h3 r)).toLoadRect B (Shape.Idx.first (numel1_S1x1.symm ▸ Nat.one_pos)),
    arg1.view.readAt (Elt F) (Rect.unit (s := S64x8) (k0_off14 i (BitVec.ofNat 32 r.val)) S1x1.size (k0_off14_inb i h3 r)).toLoadRect B (Shape.Idx.first (numel1_S1x1.symm ▸ Nat.one_pos)),
    arg1.view.readAt (Elt F) (Rect.unit (s := S64x8) (k0_off15 i (BitVec.ofNat 32 r.val)) S1x1.size (k0_off15_inb i h3 r)).toLoadRect B (Shape.Idx.first (numel1_S1x1.symm ▸ Nat.one_pos)),
    arg1.view.readAt (Elt F) (Rect.unit (s := S64x8) (k0_off16 i (BitVec.ofNat 32 r.val)) S1x1.size (k0_off16_inb i h3 r)).toLoadRect B (Shape.Idx.first (numel1_S1x1.symm ▸ Nat.one_pos)),
    arg1.view.readAt (Elt F) (Rect.unit (s := S64x8) (k0_off17 i (BitVec.ofNat 32 r.val)) S1x1.size (k0_off17_inb i h3 r)).toLoadRect B (Shape.Idx.first (numel1_S1x1.symm ▸ Nat.one_pos)),
    arg1.view.readAt (Elt F) (Rect.unit (s := S64x8) (k0_off18 i (BitVec.ofNat 32 r.val)) S1x1.size (k0_off18_inb i h3 r)).toLoadRect B (Shape.Idx.first (numel1_S1x1.symm ▸ Nat.one_pos))]

/-- A sample filled in its slot: loaded, read, its bounds read, masked and written back. -/
theorem sample_filled (c : Dev nD) (i : grid0.Coords) (h3 : k0_cond3 i = 1#1) (arg1 : Memref sig .tc .smem S64x8 .i32) (B : Buf (Elt F) (arg1.view.loc (c : Thread nD τ)))
    (X : XBuf (F := F) c) (r : Fin 4) (v : FVec F S1x3000x128 .f32)
    (hv : v = shapeCast S1x3000x128 (fillRow (slotVec c i h3 X r) (wordVec c i h3 arg1 B r)) shapeCasts_S3000x128_S1x3000x128) :
    (slotAt (hf ((i 0).val - 1)) r).view.read (Elt F)
      ((bufM.access (Rect.unit (s := S8x3000x128) (k0_off10 i (BitVec.ofNat 32 r.val)) S1x3000x128.size (k0_off10_inb i h3 r))).write (Elt F)
        (loaded c X (hf ((i 0).val - 1)) (gp ((i 0).val - 1)) r) v Finset.univ)
      = filledRow c X (arg1.view.read (Elt F) B) (gp ((i 0).val - 1)) r := by
  subst hv
  refine (slot_store (off10_eq i h3 r) _ _ _).trans ?_
  unfold slotVec wordVec
  rw [slot_load (off10_eq i h3 r), word_eq arg1 B (off11_eq i h3 r), word_eq arg1 B (off12_eq i h3 r), word_eq arg1 B (off13_eq i h3 r), word_eq arg1 B (off14_eq i h3 r),
    word_eq arg1 B (off15_eq i h3 r), word_eq arg1 B (off16_eq i h3 r), word_eq arg1 B (off17_eq i h3 r), word_eq arg1 B (off18_eq i h3 r)]
  rfl

/-! ## The first stretch -/

section Issue
variable (c : Dev nD) (i : grid0.Coords) (arg1 : Memref sig .tc .smem S64x8 .i32) (harg1 : arg1.IsWhole) (X : XBuf (F := F) c)

abbrev run1 {R : Type} (κ : Prog (TpuEff nD τ sig (Elt F) Λ₀ .tc) R) : Prog (TpuEff nD τ sig (Elt F) Λ₀ .tc) R :=
  bd1 i arg1 harg1 xM (Memref.isWhole_whole _) oM (Memref.isWhole_whole _) bufM (Memref.isWhole_whole _) cc0_scratch1 cc0_scratch2 κ

/-- The last point starts no loads. -/
theorem issue_none (h1 : ¬ k0_cond1 i = 1#1) {R : Type} {κ : Prog (TpuEff nD τ sig (Elt F) Λ₀ .tc) R} {Q : R → sProp 𝕄} :
    wp frame (wpE (defs₀ (F := F)) Variants.none (c : Thread nD τ) none) Set.univ κ Q
      ⊢ wp frame (wpE (defs₀ (F := F)) Variants.none (c : Thread nD τ) none) Set.univ (run1 i arg1 harg1 κ) Q := by
  iintro Hκ
  unfold run1 bd1
  rw [dif_neg h1]
  iexact Hκ

/-- The first two points start their group's loads into a half that nothing has used. -/
theorem issue_first (h1 : k0_cond1 i = 1#1) (h2 : ¬ k0_cond2 i = 1#1) (W : Waits sig Unit) (f : Fin 4 → SBuf (F := F) c)
    {R : Type} {κ : Prog (TpuEff nD τ sig (Elt F) Λ₀ .tc) R} {Q : R → sProp 𝕄} :
    iprop((slotP c (hf (i 0).val) 0 (f 0) ∗ slotP c (hf (i 0).val) 1 (f 1) ∗ slotP c (hf (i 0).val) 2 (f 2) ∗ slotP c (hf (i 0).val) 3 (f 3))
        ∗ (xP c (gp (i 0).val) 0 X ∗ xP c (gp (i 0).val) 1 X ∗ xP c (gp (i 0).val) 2 X ∗ xP c (gp (i 0).val) 3 X)
        ∗ ldZ c (hf (i 0).val) ∗ owes (c : Thread nD τ) 0 W)
      ⊢ iprop(((ldB c X (hf (i 0).val) (gp (i 0).val) 4 ∗ ∃ W', owes (c : Thread nD τ) 0 W')
            -∗ wp frame (wpE (defs₀ (F := F)) Variants.none (c : Thread nD τ) none) Set.univ κ Q)
          -∗ wp frame (wpE (defs₀ (F := F)) Variants.none (c : Thread nD τ) none) Set.univ (run1 i arg1 harg1 κ) Q) := by
  iintro ⟨⟨Hs0, Hs1, Hs2, Hs3⟩, ⟨Hx0, Hx1, Hx2, Hx3⟩, Hc, HO⟩ Hκ
  imod (Transfers.batch_alloc' (Lvl := ℕ) (countersEmb (U := Pipeline.UD sig nD τ)) (c : Thread nD τ) () NL (ldD c X (hf (i 0).val) (gp (i 0).val))
    (sm := SemLoc.dma (ldsem (hf (i 0).val)).sem) (E := Set.univ)) $$ Hc with HB
  unfold run1 bd1
  rw [dif_pos h1]
  rw [k0_part1_eq_skeleton]
  unfold k0_part1_skel ldD
  sl_exec
  iapply Hκ
  isplitl [HB]; · iexact HB
  iexists _; iexact HO

/-- A later point first waits for the four stores that last used the half. -/
theorem issue_next (h1 : k0_cond1 i = 1#1) (h2 : k0_cond2 i = 1#1) (W : Waits sig Unit) (g : Fin 16) (f : Fin 4 → SBuf (F := F) c)
    {R : Type} {κ : Prog (TpuEff nD τ sig (Elt F) Λ₀ .tc) R} {Q : R → sProp 𝕄} :
    iprop(stB c (hf (i 0).val) g f 4
        ∗ (xP c (gp (i 0).val) 0 X ∗ xP c (gp (i 0).val) 1 X ∗ xP c (gp (i 0).val) 2 X ∗ xP c (gp (i 0).val) 3 X)
        ∗ ldZ c (hf (i 0).val) ∗ owes (c : Thread nD τ) 0 W)
      ⊢ iprop(((ldB c X (hf (i 0).val) (gp (i 0).val) 4
            ∗ (oP c g 0 (stored c (hf (i 0).val) g 0 (f 0)) ∗ oP c g 1 (stored c (hf (i 0).val) g 1 (f 1))
              ∗ oP c g 2 (stored c (hf (i 0).val) g 2 (f 2)) ∗ oP c g 3 (stored c (hf (i 0).val) g 3 (f 3)))
            ∗ stZ c (hf (i 0).val) ∗ ∃ W', owes (c : Thread nD τ) 0 W')
            -∗ wp frame (wpE (defs₀ (F := F)) Variants.none (c : Thread nD τ) none) Set.univ κ Q)
          -∗ wp frame (wpE (defs₀ (F := F)) Variants.none (c : Thread nD τ) none) Set.univ (run1 i arg1 harg1 κ) Q) := by
  iintro ⟨HS, ⟨Hx0, Hx1, Hx2, Hx3⟩, Hc, HO⟩ Hκ
  imod (Transfers.batch_alloc' (Lvl := ℕ) (countersEmb (U := Pipeline.UD sig nD τ)) (c : Thread nD τ) () NL (ldD c X (hf (i 0).val) (gp (i 0).val))
    (sm := SemLoc.dma (ldsem (hf (i 0).val)).sem) (E := Set.univ)) $$ Hc with HB
  unfold run1 bd1
  rw [dif_pos h1]
  rw [k0_part1_eq_skeleton]
  unfold k0_part1_skel ldD stB stD
  sl_exec
  iapply Hκ
  isplitl [HB]; · iexact HB
  isplitl [HS_dst0 HS_dst1 HS_dst2 HS_dst3]
  · isplitl [HS_dst0]; · iexact HS_dst0
    isplitl [HS_dst1]; · iexact HS_dst1
    isplitl [HS_dst2]; · iexact HS_dst2
    iexact HS_dst3
  isplitl [HS]; · iexact HS
  iexists _; iexact HO

end Issue

end Cert.KernelIdeal.Hand

end
-- ==== Proof.IdealProcess.lean ====
/-
  The body's second stretch, the processing of the group before: the one wait for its four loads, the four samples filled in
  place, and the start of their four stores; and its third, the last point's two waits.
-/
module

public import proofs.«01_k».proof.Proof.IdealBody

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## The second stretch -/

section Process
variable (c : Dev nD) (i : grid0.Coords) (arg1 : Memref sig .tc .smem S64x8 .i32) (harg1 : arg1.IsWhole) (X : XBuf (F := F) c)

abbrev run2 {R : Type} (κ : Prog (TpuEff nD τ sig (Elt F) Λ₀ .tc) R) : Prog (TpuEff nD τ sig (Elt F) Λ₀ .tc) R :=
  bd2 i arg1 harg1 xM (Memref.isWhole_whole _) oM (Memref.isWhole_whole _) bufM (Memref.isWhole_whole _) cc0_scratch1 cc0_scratch2 κ

/-- The first point has no group to process. -/
theorem process_none (h3 : ¬ k0_cond3 i = 1#1) {R : Type} {κ : Prog (TpuEff nD τ sig (Elt F) Λ₀ .tc) R} {Q : R → sProp 𝕄} :
    wp frame (wpE (defs₀ (F := F)) Variants.none (c : Thread nD τ) none) Set.univ κ Q
      ⊢ wp frame (wpE (defs₀ (F := F)) Variants.none (c : Thread nD τ) none) Set.univ (run2 i arg1 harg1 κ) Q := by
  iintro Hκ
  unfold run2 bd2
  rw [dif_neg h3]
  iexact Hκ

/-- The stores' counter kept aside while the four samples are filled. -/
def stKept (h : Fin 2) : sProp 𝕄 := stZ c h

set_option maxHeartbeats 400000 in
theorem process_run (h3 : k0_cond3 i = 1#1) (W : Waits sig Unit) (B : Buf (Elt F) (arg1.view.loc (c : Thread nD τ))) (o : OBuf (F := F) c)
    {R : Type} {κ : Prog (TpuEff nD τ sig (Elt F) Λ₀ .tc) R} {Q : R → sProp 𝕄} :
    iprop(ldB c X (hf ((i 0).val - 1)) (gp ((i 0).val - 1)) 4
        ∗ (oP c (gp ((i 0).val - 1)) 0 o ∗ oP c (gp ((i 0).val - 1)) 1 o ∗ oP c (gp ((i 0).val - 1)) 2 o ∗ oP c (gp ((i 0).val - 1)) 3 o)
        ∗ stKept c (hf ((i 0).val - 1)) ∗ (arg1.view.loc (c : Thread nD τ) ↦[arg1.view.set]{fullShare} B) ∗ owes (c : Thread nD τ) 0 W)
      ⊢ iprop(((ldZ c (hf ((i 0).val - 1))
            ∗ (xP c (gp ((i 0).val - 1)) 0 X ∗ xP c (gp ((i 0).val - 1)) 1 X ∗ xP c (gp ((i 0).val - 1)) 2 X ∗ xP c (gp ((i 0).val - 1)) 3 X)
            ∗ (∃ f : Fin 4 → SBuf (F := F) c, ⌜∀ r, (slotAt (hf ((i 0).val - 1)) r).view.read (Elt F) (f r) = filledRow c X (arg1.view.read (Elt F) B) (gp ((i 0).val - 1)) r⌝
              ∗ stB c (hf ((i 0).val - 1)) (gp ((i 0).val - 1)) f 4)
            ∗ (arg1.view.loc (c : Thread nD τ) ↦[arg1.view.set]{fullShare} B) ∗ ∃ W', owes (c : Thread nD τ) 0 W')
            -∗ wp frame (wpE (defs₀ (F := F)) Variants.none (c : Thread nD τ) none) Set.univ κ Q)
          -∗ wp frame (wpE (defs₀ (F := F)) Variants.none (c : Thread nD τ) none) Set.univ (run2 i arg1 harg1 κ) Q) := by
  have w0 := access_slot (off10_eq i h3 0) (k0_off10_inb i h3 0)
  have u0 := access_slot_on (off10_eq i h3 0) (k0_off10_inb i h3 0)
  have w1 := access_slot (off10_eq i h3 1) (k0_off10_inb i h3 1)
  have u1 := access_slot_on (off10_eq i h3 1) (k0_off10_inb i h3 1)
  have w2 := access_slot (off10_eq i h3 2) (k0_off10_inb i h3 2)
  have u2 := access_slot_on (off10_eq i h3 2) (k0_off10_inb i h3 2)
  have w3 := access_slot (off10_eq i h3 3) (k0_off10_inb i h3 3)
  have u3 := access_slot_on (off10_eq i h3 3) (k0_off10_inb i h3 3)
  iintro ⟨HL, ⟨Ho0, Ho1, Ho2, Ho3⟩, HK, H1, HO⟩ Hκ
  unfold run2 bd2
  rw [dif_pos h3]
  rw [k0_part2_eq_skeleton]
  unfold k0_part2_skel ldB ldD
  sl_exec
  have y0 : (slotAt (hf ((i 0).val - 1)) 0).view.read (Elt F) (process_run.sl.HL_dst0_w1 c i arg1 X h3 B)
      = filledRow c X (arg1.view.read (Elt F) B) (gp ((i 0).val - 1)) 0 := by
    unfold process_run.sl.HL_dst0_w1
    refine sample_filled c i h3 arg1 B X 0 _ ?_
    rfl
  have y1 : (slotAt (hf ((i 0).val - 1)) 1).view.read (Elt F) (process_run.sl.HL_dst1_w2 c i arg1 X h3 B)
      = filledRow c X (arg1.view.read (Elt F) B) (gp ((i 0).val - 1)) 1 := by
    unfold process_run.sl.HL_dst1_w2
    refine sample_filled c i h3 arg1 B X 1 _ ?_
    rfl
  have y2 : (slotAt (hf ((i 0).val - 1)) 2).view.read (Elt F) (process_run.sl.HL_dst2_w3 c i arg1 X h3 B)
      = filledRow c X (arg1.view.read (Elt F) B) (gp ((i 0).val - 1)) 2 := by
    unfold process_run.sl.HL_dst2_w3
    refine sample_filled c i h3 arg1 B X 2 _ ?_
    rfl
  have y3 : (slotAt (hf ((i 0).val - 1)) 3).view.read (Elt F) (process_run.sl.HL_dst3_w4 c i arg1 X h3 B)
      = filledRow c X (arg1.view.read (Elt F) B) (gp ((i 0).val - 1)) 3 := by
    unfold process_run.sl.HL_dst3_w4
    refine sample_filled c i h3 arg1 B X 3 _ ?_
    rfl
  generalize (process_run.sl.HL_dst0_w1 c i arg1 X h3 B : SBuf (F := F) c) = f0 at y0 ⊢
  generalize (process_run.sl.HL_dst1_w2 c i arg1 X h3 B : SBuf (F := F) c) = f1 at y1 ⊢
  generalize (process_run.sl.HL_dst2_w3 c i arg1 X h3 B : SBuf (F := F) c) = f2 at y2 ⊢
  generalize (process_run.sl.HL_dst3_w4 c i arg1 X h3 B : SBuf (F := F) c) = f3 at y3 ⊢
  obtain ⟨f, rfl, rfl, rfl, rfl⟩ : ∃ f : Fin 4 → SBuf (F := F) c, f 0 = f0 ∧ f 1 = f1 ∧ f 2 = f2 ∧ f 3 = f3 := ⟨![f0, f1, f2, f3], rfl, rfl, rfl, rfl⟩
  unfold stKept
  imod (Transfers.batch_alloc' (Lvl := ℕ) (countersEmb (U := Pipeline.UD sig nD τ)) (c : Thread nD τ) () NS
    (stD c (hf ((i 0).val - 1)) (gp ((i 0).val - 1)) f) (sm := SemLoc.dma (stsem (hf ((i 0).val - 1))).sem) (E := Set.univ)) $$ HK with HB
  unfold stD
  sl_exec
  iapply Hκ
  isplitl [HL]; · iexact HL
  isplitl [HL_src0 HL_src1 HL_src2 HL_src3]
  · isplitl [HL_src0]; · iexact HL_src0
    isplitl [HL_src1]; · iexact HL_src1
    isplitl [HL_src2]; · iexact HL_src2
    iexact HL_src3
  isplitl [HB]
  · iexists f
    isplitr
    · ipureintro
      intro r
      fin_cases r
      · exact y0
      · exact y1
      · exact y2
      · exact y3
    · iexact HB
  isplitl [H1]; · iexact H1
  iexists _; iexact HO

end Process

/-! ## The third stretch -/

section Drain
variable (c : Dev nD) (i : grid0.Coords)

abbrev run3 {R : Type} (κ : Prog (TpuEff nD τ sig (Elt F) Λ₀ .tc) R) : Prog (TpuEff nD τ sig (Elt F) Λ₀ .tc) R :=
  bd3 i oM bufM cc0_scratch2 κ

/-- Only the last point drains. -/
theorem drain_none (h4 : ¬ (i 0).val = 16) {R : Type} {κ : Prog (TpuEff nD τ sig (Elt F) Λ₀ .tc) R} {Q : R → sProp 𝕄} :
    wp frame (wpE (defs₀ (F := F)) Variants.none (c : Thread nD τ) none) Set.univ κ Q
      ⊢ wp frame (wpE (defs₀ (F := F)) Variants.none (c : Thread nD τ) none) Set.univ (run3 i κ) Q := by
  iintro Hκ
  unfold run3 bd3
  rw [dif_neg (fun h => h4 ((cond4_iff i).mp h))]
  iexact Hκ

/-- The last point waits for both halves' stores. -/
theorem drain_run (h4 : (i 0).val = 16) (W : Waits sig Unit) (g0 g1 : Fin 16) (f0 f1 : Fin 4 → SBuf (F := F) c)
    {R : Type} {κ : Prog (TpuEff nD τ sig (Elt F) Λ₀ .tc) R} {Q : R → sProp 𝕄} :
    iprop(stB c 0 g0 f0 4 ∗ stB c 1 g1 f1 4 ∗ owes (c : Thread nD τ) 0 W)
      ⊢ iprop((((oP c g0 0 (stored c 0 g0 0 (f0 0)) ∗ oP c g0 1 (stored c 0 g0 1 (f0 1)) ∗ oP c g0 2 (stored c 0 g0 2 (f0 2)) ∗ oP c g0 3 (stored c 0 g0 3 (f0 3)))
            ∗ (oP c g1 0 (stored c 1 g1 0 (f1 0)) ∗ oP c g1 1 (stored c 1 g1 1 (f1 1)) ∗ oP c g1 2 (stored c 1 g1 2 (f1 2)) ∗ oP c g1 3 (stored c 1 g1 3 (f1 3)))
            ∗ (slotP c 0 0 (f0 0) ∗ slotP c 0 1 (f0 1) ∗ slotP c 0 2 (f0 2) ∗ slotP c 0 3 (f0 3))
            ∗ (slotP c 1 0 (f1 0) ∗ slotP c 1 1 (f1 1) ∗ slotP c 1 2 (f1 2) ∗ slotP c 1 3 (f1 3))
            ∗ stZ c 0 ∗ stZ c 1 ∗ ∃ W', owes (c : Thread nD τ) 0 W')
            -∗ wp frame (wpE (defs₀ (F := F)) Variants.none (c : Thread nD τ) none) Set.univ κ Q)
          -∗ wp frame (wpE (defs₀ (F := F)) Variants.none (c : Thread nD τ) none) Set.univ (run3 i κ) Q) := by
  iintro ⟨HA, HB, HO⟩ Hκ
  unfold run3 bd3
  rw [dif_pos ((cond4_iff i).mpr h4)]
  unfold stB stD
  sl_exec
  iapply Hκ
  isplitl [HA_dst0 HA_dst1 HA_dst2 HA_dst3]
  · isplitl [HA_dst0]; · iexact HA_dst0
    isplitl [HA_dst1]; · iexact HA_dst1
    isplitl [HA_dst2]; · iexact HA_dst2
    iexact HA_dst3
  isplitl [HB_dst0 HB_dst1 HB_dst2 HB_dst3]
  · isplitl [HB_dst0]; · iexact HB_dst0
    isplitl [HB_dst1]; · iexact HB_dst1
    isplitl [HB_dst2]; · iexact HB_dst2
    iexact HB_dst3
  isplitl [HA_src0 HA_src1 HA_src2 HA_src3]
  · isplitl [HA_src0]; · iexact HA_src0
    isplitl [HA_src1]; · iexact HA_src1
    isplitl [HA_src2]; · iexact HA_src2
    iexact HA_src3
  isplitl [HB_src0 HB_src1 HB_src2 HB_src3]
  · isplitl [HB_src0]; · iexact HB_src0
    isplitl [HB_src1]; · iexact HB_src1
    isplitl [HB_src2]; · iexact HB_src2
    iexact HB_src3
  isplitl [HA]; · iexact HA
  isplitl [HB]; · iexact HB
  iexists _; iexact HO

end Drain

end Cert.KernelIdeal.Hand

end
-- ==== Proof.IdealInv.lean ====
/-
  What holds between two grid points, and one grid point's step.

  Between points the core holds the input's rows except those being loaded, the output's rows except those being stored, and
  of the scratch buffer the halves nothing is using. Before point `s` the loads of group `s - 1` are in flight, and the stores
  of group `s - 2`.
-/
module

public import proofs.«01_k».proof.Proof.IdealProcess
public import Idealize.ShloMosaic.Lib.ValueLayout

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## The output the kernel computes -/

section Out
variable (c : Dev nD) (X : XBuf (F := F) c) (T : S64x8.Idx → Elt F .i32)

/-- A sample of a buffer of samples. -/
def sample (X : S64x1x3000x128.Idx → Elt F .f32) (n : Fin 64) : FVec F S3000x128 .f32 := fun y => X (ValueIdx.ix4 n (0 : Fin 1) (y 0) (y 1))

/-- Every sample with its mean in its bands. -/
def outOf : OBuf (F := F) c := fun (j : S64x1x3000x128.Idx) => fillRow (sample (F := F) X (j 0)) (fun k => T (ValueIdx.ix2 (j 0) k)) (ValueIdx.ix2 (j 2) (j 3))

omit [FloatOps F] [Named F] in
private theorem row_index (g : Fin 16) (r : Fin 4) (y : S3000x128.Idx) :
    (Rect.unit (s := S64x1x3000x128) (rowOff g r) S1x1x3000x128.size (rowOff_inb g r)).emb (Shape.reshapeEquiv (squeezes_S1x1x3000x128_S3000x128.numel_eq) y)
      = ValueIdx.ix4 (smp g r) (0 : Fin 1) (y 0) (y 1) := by
  obtain ⟨p, q, rfl⟩ : ∃ (p : Fin 3000) (q : Fin 128), y = ValueIdx.ix2 p q := ⟨y 0, y 1, by funext a; fin_cases a <;> rfl⟩
  refine (congrArg _ (ValueIdx.reshapeEquiv_ix2_11ab _ p q)).trans ?_
  funext a; refine Fin.ext ?_
  fin_cases a
  · rfl
  · rfl
  · show 0 + 1 * p.val = p.val; omega
  · show 0 + 1 * q.val = q.val; omega

omit [FloatOps F] [Named F] in
theorem xrow_read (g : Fin 16) (r : Fin 4) : (xrow g r).view.read (Elt F) X = sample (F := F) X (smp g r) := by
  funext y; exact congrArg X (row_index g r y)
omit [FloatOps F] [Named F] in
theorem orow_read (O : OBuf (F := F) c) (g : Fin 16) (r : Fin 4) : (orow g r).view.read (Elt F) O = sample (F := F) O (smp g r) := by
  funext y; exact congrArg O (row_index g r y)

theorem outOf_apply (n : Fin 64) (p : Fin 3000) (q : Fin 128) :
    outOf c X T (ValueIdx.ix4 n (0 : Fin 1) p q) = fillRow (sample (F := F) X n) (fun k => T (ValueIdx.ix2 n k)) (ValueIdx.ix2 p q) := by
  unfold outOf; rfl
theorem sample_outOf (n : Fin 64) : sample (F := F) (outOf c X T) n = fillRow (sample (F := F) X n) (fun k => T (ValueIdx.ix2 n k)) := by
  funext y
  obtain ⟨p, q, rfl⟩ : ∃ (p : Fin 3000) (q : Fin 128), y = ValueIdx.ix2 p q := ⟨y 0, y 1, by funext a; fin_cases a <;> rfl⟩
  exact outOf_apply c X T n p q

theorem outOf_row (g : Fin 16) (r : Fin 4) : (orow g r).view.read (Elt F) (outOf c X T) = filledRow c X T g r := by
  refine (orow_read c _ g r).trans ((sample_outOf c X T (smp g r)).trans ?_)
  exact congrArg (fun x => fillRow x (fun k => T (ValueIdx.ix2 (smp g r) k))) (xrow_read c X g r).symm

/-- A row into which a filled slot has been stored is that row of the output. -/
theorem stored_out (h : Fin 2) (g : Fin 16) (r : Fin 4) (f : SBuf (F := F) c)
    (hf : (slotAt h r).view.read (Elt F) f = filledRow c X T g r) : oP c g r (stored c h g r f) = oP c g r (outOf c X T) := by
  have e : (orow g r).view.read (Elt F) (stored c h g r f) = (orow g r).view.read (Elt F) (outOf c X T) := by
    rw [outOf_row]
    exact (View.read_writes_whole (orow g r).view _ _).trans hf
  unfold oP
  rw [pointsTo_rep (c : Thread nD τ) (orow g r) (stored c h g r f) fullShare, e, ← pointsTo_rep (c : Thread nD τ) (orow g r) (outOf c X T) fullShare]

end Out

/-! ## Which groups are where -/

/-- The groups whose input rows are home before point `s`, -/
abbrev XS (s : ℕ) : Finset (Fin 16) := Finset.univ.filter fun g => g.val + 1 ≠ s
/-- those of them still home after its loads are started, -/
abbrev XR (s : ℕ) : Finset (Fin 16) := Finset.univ.filter fun g => g.val + 1 ≠ s ∧ g.val ≠ s
/-- the groups whose output rows are written, -/
abbrev FS (s : ℕ) : Finset (Fin 16) := Finset.univ.filter fun g => g.val + 2 < s ∨ s = 17
/-- and those whose output rows are untouched. -/
abbrev OS (s : ℕ) : Finset (Fin 16) := Finset.univ.filter fun g => s ≤ g.val + 1

theorem XS_take : ∀ s < 16, XS s = insert (gp s) (XR s) ∧ gp s ∉ XR s := by decide +kernel
theorem XS_put : ∀ s < 17, 1 ≤ s → XS (s + 1) = insert (gp (s - 1)) (XR s) ∧ gp (s - 1) ∉ XR s := by decide +kernel
theorem XS_one : XS 1 = XR 0 := by decide +kernel
theorem XS_last : XS 16 = XR 16 := by decide +kernel
theorem OS_take : ∀ s < 17, 1 ≤ s → OS s = insert (gp (s - 1)) (OS (s + 1)) ∧ gp (s - 1) ∉ OS (s + 1) := by decide +kernel
theorem OS_one : OS 1 = OS 0 := by decide +kernel
theorem FS_put : ∀ s < 16, 2 ≤ s → FS (s + 1) = insert (gp (s - 2)) (FS s) ∧ gp (s - 2) ∉ FS s := by decide +kernel
theorem FS_one : FS 1 = FS 0 := by decide +kernel
theorem FS_two : FS 2 = FS 1 := by decide +kernel
theorem FS_last : FS 17 = insert (gp 14) (insert (gp 15) (FS 16)) ∧ gp 14 ∉ insert (gp 15) (FS 16) ∧ gp 15 ∉ FS 16 := by decide +kernel

section Inv
variable (c : Dev nD) (X : XBuf (F := F) c) (O : OBuf (F := F) c) (T : S64x8.Idx → Elt F .i32)

/-- Group `g`'s four rows of the input; -/
abbrev xG (g : Fin 16) : sProp 𝕄 := iprop(xP c g 0 X ∗ xP c g 1 X ∗ xP c g 2 X ∗ xP c g 3 X)
/-- of the output; -/
abbrev oG (f : OBuf (F := F) c) (g : Fin 16) : sProp 𝕄 := iprop(oP c g 0 f ∗ oP c g 1 f ∗ oP c g 2 f ∗ oP c g 3 f)
/-- half `h`'s four slots, at anything; -/
def sAny (h : Fin 2) : sProp 𝕄 := iprop(∃ f : Fin 4 → SBuf (F := F) c, slotP c h 0 (f 0) ∗ slotP c h 1 (f 1) ∗ slotP c h 2 (f 2) ∗ slotP c h 3 (f 3))
/-- group `g`'s stores in flight out of filled slots. -/
def stFly (h : Fin 2) (g : Fin 16) : sProp 𝕄 :=
  iprop(∃ f : Fin 4 → SBuf (F := F) c, ⌜∀ r, (slotAt h r).view.read (Elt F) (f r) = filledRow c X T g r⌝ ∗ stB c h g f 4)

/-- The scratch buffer and the semaphores before point `s`. -/
def mid (s : ℕ) : sProp 𝕄 :=
  if s = 0 ∨ s = 17 then iprop(ldZ c 0 ∗ ldZ c 1 ∗ stZ c 0 ∗ stZ c 1 ∗ sAny c 0 ∗ sAny c 1)
  else if s = 1 then iprop(ldB c X 0 (gp 0) 4 ∗ ldZ c 1 ∗ stZ c 0 ∗ stZ c 1 ∗ sAny c 1)
  else iprop(ldB c X (hf (s - 1)) (gp (s - 1)) 4 ∗ ldZ c (hf s) ∗ stFly c X T (hf s) (gp (s - 2)) ∗ stZ c (hf (s - 1)))

/-- What holds before point `s`. -/
def Inv (s : ℕ) : sProp 𝕄 :=
  iprop(bigSep (XS s) (xG c X) ∗ bigSep (FS s) (oG c (outOf c X T)) ∗ bigSep (OS s) (oG c O) ∗ mid c X T s)

theorem mid_zero : mid c X T 0 = iprop(ldZ c 0 ∗ ldZ c 1 ∗ stZ c 0 ∗ stZ c 1 ∗ sAny c 0 ∗ sAny c 1) := if_pos (Or.inl rfl)
theorem mid_last : mid c X T 17 = iprop(ldZ c 0 ∗ ldZ c 1 ∗ stZ c 0 ∗ stZ c 1 ∗ sAny c 0 ∗ sAny c 1) := if_pos (Or.inr rfl)
theorem mid_one : mid c X T 1 = iprop(ldB c X 0 (gp 0) 4 ∗ ldZ c 1 ∗ stZ c 0 ∗ stZ c 1 ∗ sAny c 1) := by
  unfold mid; rw [if_neg (by decide), if_pos rfl]
theorem mid_on (s : ℕ) (h2 : 2 ≤ s) (h17 : s < 17) :
    mid c X T s = iprop(ldB c X (hf (s - 1)) (gp (s - 1)) 4 ∗ ldZ c (hf s) ∗ stFly c X T (hf s) (gp (s - 2)) ∗ stZ c (hf (s - 1))) := by
  unfold mid; rw [if_neg (by omega), if_neg (by omega)]

theorem xs_take (s : ℕ) (h : s < 16) : bigSep (XS s) (xG c X) = iprop(xG c X (gp s) ∗ bigSep (XR s) (xG c X)) := by
  rw [(XS_take s h).1, bigSep_insert (XS_take s h).2]; rfl
theorem xs_put (s : ℕ) (h : s < 17) (h1 : 1 ≤ s) : bigSep (XS (s + 1)) (xG c X) = iprop(xG c X (gp (s - 1)) ∗ bigSep (XR s) (xG c X)) := by
  rw [(XS_put s h h1).1, bigSep_insert (XS_put s h h1).2]; rfl
theorem os_take (s : ℕ) (h : s < 17) (h1 : 1 ≤ s) : bigSep (OS s) (oG c O) = iprop(oG c O (gp (s - 1)) ∗ bigSep (OS (s + 1)) (oG c O)) := by
  rw [(OS_take s h h1).1, bigSep_insert (OS_take s h h1).2]; rfl
theorem fs_put (f : OBuf (F := F) c) (s : ℕ) (h : s < 16) (h1 : 2 ≤ s) : bigSep (FS (s + 1)) (oG c f) = iprop(oG c f (gp (s - 2)) ∗ bigSep (FS s) (oG c f)) := by
  rw [(FS_put s h h1).1, bigSep_insert (FS_put s h h1).2]; rfl
theorem fs_last (f : OBuf (F := F) c) : bigSep (FS 17) (oG c f) = iprop(oG c f (gp 14) ∗ oG c f (gp 15) ∗ bigSep (FS 16) (oG c f)) := by
  rw [FS_last.1, bigSep_insert FS_last.2.1, bigSep_insert FS_last.2.2]; rfl

/-- A group stored out of filled slots is that group of the output. -/
theorem group_out (h : Fin 2) (g : Fin 16) (f : Fin 4 → SBuf (F := F) c) (hf : ∀ r, (slotAt h r).view.read (Elt F) (f r) = filledRow c X T g r) :
    (iprop(oP c g 0 (stored c h g 0 (f 0)) ∗ oP c g 1 (stored c h g 1 (f 1)) ∗ oP c g 2 (stored c h g 2 (f 2)) ∗ oP c g 3 (stored c h g 3 (f 3))) : sProp 𝕄)
      = oG c (outOf c X T) g := by
  rw [stored_out c X T h g 0 (f 0) (hf 0), stored_out c X T h g 1 (f 1) (hf 1), stored_out c X T h g 2 (f 2) (hf 2), stored_out c X T h g 3 (f 3) (hf 3)]

/-! ## One grid point -/

section Step
variable (i : grid0.Coords) (arg1 : Memref sig .tc .smem S64x8 .i32) (harg1 : arg1.IsWhole)

/-- The body at point `i`. -/
abbrev bodyRun : Prog (TpuEff nD τ sig (Elt F) Λ₀ .tc) PUnit :=
  cc0__body i arg1 harg1 xM (Memref.isWhole_whole _) oM (Memref.isWhole_whole _) bufM (Memref.isWhole_whole _) cc0_scratch1 cc0_scratch2

theorem body_runs : bodyRun (F := F) i arg1 harg1 = run1 i arg1 harg1 (run2 i arg1 harg1 (run3 i (pure PUnit.unit))) := by
  unfold bodyRun run1 run2 run3
  rw [cc0__body_eq_skeleton, bd1.eq, bd2.eq, bd3.eq]
  rfl

/-- The table of bounds, in its staging buffer. -/
abbrev tabP (B : Buf (Elt F) (arg1.view.loc (c : Thread nD τ))) : sProp 𝕄 := arg1.view.loc (c : Thread nD τ) ↦[arg1.view.set]{fullShare} B

variable (W : Waits sig Unit) (B : Buf (Elt F) (arg1.view.loc (c : Thread nD τ))) (hB : arg1.view.read (Elt F) B = T)

/-- What one point is to do. -/
abbrev Step (s : ℕ) : Prop :=
  iprop(Inv c X O T s ∗ tabP c arg1 B ∗ owes (c : Thread nD τ) 0 W)
    ⊢ wp frame (wpE (defs₀ (F := F)) Variants.none (c : Thread nD τ) none) Set.univ (bodyRun (F := F) i arg1 harg1)
        (fun _ => iprop(Inv c X O T (s + 1) ∗ tabP c arg1 B ∗ ∃ W', owes (c : Thread nD τ) 0 W'))

/-- The first point. -/
theorem step_zero (hs : (i 0).val = 0) : Step c X O T i arg1 harg1 W B 0 := by
  have h1 : k0_cond1 i = 1#1 := (cond1_iff i).mpr (by omega)
  have h2 : ¬ k0_cond2 i = 1#1 := fun h => absurd ((cond2_iff i).mp h) (by omega)
  have h3 : ¬ k0_cond3 i = 1#1 := fun h => absurd ((cond3_iff i).mp h) (by omega)
  have L1 := @issue_first F _ _ c i arg1 harg1 X h1 h2 W
  rw [hs] at L1
  unfold Step Inv
  rw [body_runs, mid_zero, xs_take c X 0 (by omega), mid_one, XS_one, FS_one, OS_one]
  unfold sAny
  iintro ⟨⟨⟨Hx, HX⟩, HF, HO, HL0, HL1, HS0, HS1, ⟨%f0, H0⟩, ⟨%f1, H1⟩⟩, HT, HW⟩
  iapply (L1 f0) $$ [H0 Hx HL0 HW]
  · isplitl [H0]; · iexact H0
    isplitl [Hx]; · iexact Hx
    isplitl [HL0]; · iexact HL0
    iexact HW
  iintro ⟨HL0, HW⟩
  iapply (process_none c i arg1 harg1 h3)
  iapply (drain_none c i (by omega))
  sl_step
  isplitr [HT HW]
  · isplitl [HX]; · iexact HX
    isplitl [HF]; · iexact HF
    isplitl [HO]; · iexact HO
    isplitl [HL0]; · iexact HL0
    isplitl [HL1]; · iexact HL1
    isplitl [HS0]; · iexact HS0
    isplitl [HS1]; · iexact HS1
    iexists f1; iexact H1
  isplitl [HT]; · iexact HT
  iexact HW

include hB in
/-- The second point: nothing has been stored yet. -/
theorem step_one (hs : (i 0).val = 1) : Step c X O T i arg1 harg1 W B 1 := by
  have h1 : k0_cond1 i = 1#1 := (cond1_iff i).mpr (by omega)
  have h2 : ¬ k0_cond2 i = 1#1 := fun h => absurd ((cond2_iff i).mp h) (by omega)
  have h3 : k0_cond3 i = 1#1 := (cond3_iff i).mpr (by omega)
  have L1 := @issue_first F _ _ c i arg1 harg1 X h1 h2 W
  have L2 := @process_run F _ _ c i arg1 harg1 X h3
  rw [hs] at L1 L2
  unfold Step Inv
  rw [body_runs, mid_one, xs_take c X 1 (by omega), xs_put c X 1 (by omega) (by omega), os_take c O 1 (by omega) (by omega),
    mid_on c X T 2 (by omega) (by omega), FS_two]
  unfold sAny
  iintro ⟨⟨⟨Hx, HX⟩, HF, ⟨Ho, HO⟩, HB0, HL1, HS0, HS1, ⟨%f1, H1⟩⟩, HT, HW⟩
  iapply (L1 f1) $$ [H1 Hx HL1 HW]
  · isplitl [H1]; · iexact H1
    isplitl [Hx]; · iexact Hx
    isplitl [HL1]; · iexact HL1
    iexact HW
  iintro ⟨HB1, ⟨%W1, HW⟩⟩
  iapply (L2 W1 B O) $$ [HB0 Ho HS0 HT HW]
  · isplitl [HB0]; · iexact HB0
    isplitl [Ho]; · iexact Ho
    isplitl [HS0]; · unfold stKept; iexact HS0
    isplitl [HT]; · iexact HT
    iexact HW
  rw [hB]
  iintro ⟨HL0, Hx, HS, HT, HW⟩
  iapply (drain_none c i (by omega))
  sl_step
  isplitr [HT HW]
  · isplitl [Hx HX]
    · isplitl [Hx]; · iexact Hx
      iexact HX
    isplitl [HF]; · iexact HF
    isplitl [HO]; · iexact HO
    isplitl [HB1]; · iexact HB1
    isplitl [HL0]; · iexact HL0
    isplitl [HS]; · unfold stFly; iexact HS
    iexact HS1
  isplitl [HT]; · iexact HT
  iexact HW

include hB in
/-- A point that stores out of one half what it loads into the other. -/
theorem step_mid (s : ℕ) (hs : (i 0).val = s) (l : 2 ≤ s) (u : s < 16) : Step c X O T i arg1 harg1 W B s := by
  have h1 : k0_cond1 i = 1#1 := (cond1_iff i).mpr (by omega)
  have h2 : k0_cond2 i = 1#1 := (cond2_iff i).mpr (by omega)
  have h3 : k0_cond3 i = 1#1 := (cond3_iff i).mpr (by omega)
  have L1 := @issue_next F _ _ c i arg1 harg1 X h1 h2 W
  have L2 := @process_run F _ _ c i arg1 harg1 X h3
  rw [hs] at L1 L2
  have e1 : s + 1 - 1 = s := by omega
  have e2 : s + 1 - 2 = s - 1 := by omega
  have e3 : hf (s + 1) = hf (s - 1) := Fin.ext (by show (s + 1) % 2 = (s - 1) % 2; omega)
  unfold Step Inv
  rw [body_runs, xs_take c X s u, xs_put c X s (by omega) (by omega), os_take c O s (by omega) (by omega),
    mid_on c X T s (by omega) (by omega), mid_on c X T (s + 1) (by omega) (by omega), fs_put c (outOf c X T) s u l, e1, e2, e3]
  iintro ⟨⟨⟨Hx, HX⟩, HF, ⟨Ho, HO⟩, HB0, HL1, HS1, HS0⟩, HT, HW⟩
  unfold stFly
  icases HS1 with ⟨%f1, %y1, HS1⟩
  iapply (L1 (gp (s - 2)) f1) $$ [HS1 Hx HL1 HW]
  · isplitl [HS1]; · iexact HS1
    isplitl [Hx]; · iexact Hx
    isplitl [HL1]; · iexact HL1
    iexact HW
  rw [group_out c X T (hf s) (gp (s - 2)) f1 y1]
  iintro ⟨HB1, Ho1, HS1, ⟨%W1, HW⟩⟩
  iapply (L2 W1 B O) $$ [HB0 Ho HS0 HT HW]
  · isplitl [HB0]; · iexact HB0
    isplitl [Ho]; · iexact Ho
    isplitl [HS0]; · unfold stKept; iexact HS0
    isplitl [HT]; · iexact HT
    iexact HW
  rw [hB]
  iintro ⟨HL0, Hx, HS, HT, HW⟩
  iapply (drain_none c i (by omega))
  sl_step
  isplitr [HT HW]
  · isplitl [Hx HX]
    · isplitl [Hx]; · iexact Hx
      iexact HX
    isplitl [Ho1 HF]
    · isplitl [Ho1]; · iexact Ho1
      iexact HF
    isplitl [HO]; · iexact HO
    isplitl [HB1]; · iexact HB1
    isplitl [HL0]; · iexact HL0
    isplitl [HS]; · iexact HS
    iexact HS1
  isplitl [HT]; · iexact HT
  iexact HW

include hB in
/-- The last point: no group is left to load, and both halves' stores are waited for. -/
theorem step_last (hs : (i 0).val = 16) : Step c X O T i arg1 harg1 W B 16 := by
  have h1 : ¬ k0_cond1 i = 1#1 := fun h => absurd ((cond1_iff i).mp h) (by omega)
  have h3 : k0_cond3 i = 1#1 := (cond3_iff i).mpr (by omega)
  have L2 := @process_run F _ _ c i arg1 harg1 X h3
  rw [hs] at L2
  unfold Step Inv
  rw [body_runs, XS_last, xs_put c X 16 (by omega) (by omega), os_take c O 16 (by omega) (by omega),
    mid_on c X T 16 (by omega) (by omega), mid_last, fs_last c (outOf c X T)]
  iintro ⟨⟨HX, HF, ⟨Ho, HO⟩, HB0, HL0, HSA, HS1⟩, HT, HW⟩
  unfold stFly
  icases HSA with ⟨%f0, %y0, HSA⟩
  iapply (issue_none c i arg1 harg1 h1)
  iapply (L2 W B O) $$ [HB0 Ho HS1 HT HW]
  · isplitl [HB0]; · iexact HB0
    isplitl [Ho]; · iexact Ho
    isplitl [HS1]; · unfold stKept; iexact HS1
    isplitl [HT]; · iexact HT
    iexact HW
  rw [hB]
  iintro ⟨HL1, Hx, ⟨%f1, %y1, HSB⟩, HT, ⟨%W1, HW⟩⟩
  iapply (drain_run c i hs W1 (gp 14) (gp 15) f0 f1) $$ [HSA HSB HW]
  · isplitl [HSA]; · iexact HSA
    isplitl [HSB]; · iexact HSB
    iexact HW
  rw [group_out c X T 0 (gp 14) f0 y0, group_out c X T 1 (gp 15) f1 y1]
  iintro ⟨Ho0, Ho1, H0, H1, HS0, HS1, HW⟩
  sl_step
  unfold sAny
  isplitr [HT HW]
  · isplitl [Hx HX]
    · isplitl [Hx]; · iexact Hx
      iexact HX
    isplitl [Ho0 Ho1 HF]
    · isplitl [Ho0]; · iexact Ho0
      isplitl [Ho1]; · iexact Ho1
      iexact HF
    isplitl [HO]; · iexact HO
    isplitl [HL0]; · iexact HL0
    isplitl [HL1]; · iexact HL1
    isplitl [HS0]; · iexact HS0
    isplitl [HS1]; · iexact HS1
    isplitl [H0]
    · iexists f0; iexact H0
    iexists f1; iexact H1
  isplitl [HT]; · iexact HT
  iexact HW

include hB in
/-- Every point. -/
theorem step : Step c X O T i arg1 harg1 W B (i 0).val := by
  have hi : (i 0).val < 17 := (i 0).isLt
  rcases Nat.lt_or_ge (i 0).val 2 with h | h
  · rcases Nat.lt_or_ge (i 0).val 1 with h' | h'
    · have e : (i 0).val = 0 := by omega
      rw [e]; exact step_zero c X O T i arg1 harg1 W B e
    · have e : (i 0).val = 1 := by omega
      rw [e]; exact step_one c X O T i arg1 harg1 W B hB e
  · rcases Nat.lt_or_ge (i 0).val 16 with h' | h'
    · exact step_mid c X O T i arg1 harg1 W B hB _ rfl h h'
    · have e : (i 0).val = 16 := by omega
      rw [e]; exact step_last c X O T i arg1 harg1 W B hB e

end Step
end Inv

end Cert.KernelIdeal.Hand

end
-- ==== Proof.IdealFrame.lean ====
/-
  The kernel's run: the launch hands the pipeline the input, the output, the scratch buffer and the four semaphores whole;
  they are cut into the rows and slots of the points' invariant and joined again after the last point. The run ends with the
  argument unchanged, the result at the transposed output, and every semaphore at zero.
-/
module

public import proofs.«01_k».proof.Proof.IdealInv
public import proofs.«01_k».proof.Proof.Gen.KernelIdeal.Frame

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The rows and the slots as element sets -/

/-- Group `g`'s elements, -/
abbrev GB (g : Fin 16) : Finset S64x1x3000x128.Idx := Finset.univ.filter fun y => (y 0).val / 4 = g.val
/-- one row's of them, -/
abbrev RB (g : Fin 16) (r : Fin 4) : Finset S64x1x3000x128.Idx := (Rect.unit (s := S64x1x3000x128) (rowOff g r) S1x1x3000x128.size (rowOff_inb g r)).set
/-- and a slot's. -/
abbrev SB (p : Fin 2 × Fin 4) : Finset S8x3000x128.Idx := (Rect.unit (s := S8x3000x128) (slotOff p.1 p.2) S1x3000x128.size (slotOff_inb p.1 p.2)).set

theorem xrow_set (g : Fin 16) (r : Fin 4) : (xrow g r).view.set = RB g r := (View.set_reshape _ _).trans (View.set_slice_whole _ _)
theorem orow_set (g : Fin 16) (r : Fin 4) : (orow g r).view.set = RB g r := (View.set_reshape _ _).trans (View.set_slice_whole _ _)
theorem slot_set (h : Fin 2) (r : Fin 4) : (slotAt h r).view.set = SB (h, r) := (View.set_reshape _ _).trans (View.set_slice_whole _ _)

theorem mem_RB (g : Fin 16) (r : Fin 4) (y : S64x1x3000x128.Idx) : y ∈ RB g r ↔ (y 0).val = 4 * g.val + r.val := by
  rw [Rect.mem_set_unit]
  have h1 : (y 1).val < 1 := (y 1).isLt
  have h2 : (y 2).val < 3000 := (y 2).isLt
  have h3 : (y 3).val < 128 := (y 3).isLt
  constructor
  · intro H; have a0 : 4 * g.val + r.val ≤ (y 0).val ∧ (y 0).val < 4 * g.val + r.val + 1 := H 0; omega
  · intro H i; fin_cases i
    · show 4 * g.val + r.val ≤ (y 0).val ∧ (y 0).val < 4 * g.val + r.val + 1; omega
    · show 0 ≤ (y 1).val ∧ (y 1).val < 0 + 1; omega
    · show 0 ≤ (y 2).val ∧ (y 2).val < 0 + 3000; omega
    · show 0 ≤ (y 3).val ∧ (y 3).val < 0 + 128; omega
theorem mem_SB (p : Fin 2 × Fin 4) (y : S8x3000x128.Idx) : y ∈ SB p ↔ (y 0).val = 4 * p.1.val + p.2.val := by
  rw [Rect.mem_set_unit]
  have h1 : (y 1).val < 3000 := (y 1).isLt
  have h2 : (y 2).val < 128 := (y 2).isLt
  constructor
  · intro H; have a0 : 4 * p.1.val + p.2.val ≤ (y 0).val ∧ (y 0).val < 4 * p.1.val + p.2.val + 1 := H 0; omega
  · intro H i; fin_cases i
    · show 4 * p.1.val + p.2.val ≤ (y 0).val ∧ (y 0).val < 4 * p.1.val + p.2.val + 1; omega
    · show 0 ≤ (y 1).val ∧ (y 1).val < 0 + 3000; omega
    · show 0 ≤ (y 2).val ∧ (y 2).val < 0 + 128; omega

theorem mem_GB (g : Fin 16) (y : S64x1x3000x128.Idx) : y ∈ GB g ↔ (y 0).val / 4 = g.val := by
  unfold GB; rw [Finset.mem_filter]; exact ⟨fun h => h.2, fun h => ⟨Finset.mem_univ _, h⟩⟩
theorem GB_disjoint (g g' : Fin 16) (hne : g ≠ g') : Disjoint (GB g) (GB g') := by
  rw [Finset.disjoint_left]; intro y hy hy'; rw [mem_GB] at hy hy'; exact hne (Fin.ext (hy.symm.trans hy'))
theorem GB_cover : (Finset.univ : Finset (Fin 16)).biUnion GB = Finset.univ := by
  ext y
  have h0 : (y 0).val < 64 := (y 0).isLt
  simp only [Finset.mem_biUnion, Finset.mem_univ, true_and, iff_true]
  exact ⟨⟨(y 0).val / 4, by omega⟩, (mem_GB _ _).mpr rfl⟩
theorem RB_disjoint (g : Fin 16) (r r' : Fin 4) (hne : r ≠ r') : Disjoint (RB g r) (RB g r') := by
  rw [Finset.disjoint_left]; intro y hy hy'; rw [mem_RB] at hy hy'; exact hne (Fin.ext (by omega))
theorem RB_cover (g : Fin 16) : (Finset.univ : Finset (Fin 4)).biUnion (RB g) = GB g := by
  ext y
  rw [Finset.mem_biUnion, mem_GB]
  constructor
  · rintro ⟨r, -, hr⟩; rw [mem_RB] at hr; have := r.isLt; omega
  · intro h; exact ⟨⟨(y 0).val % 4, by omega⟩, Finset.mem_univ _, (mem_RB _ _ _).mpr (by show _ = 4 * g.val + (y 0).val % 4; omega)⟩
theorem SB_disjoint (p p' : Fin 2 × Fin 4) (hne : p ≠ p') : Disjoint (SB p) (SB p') := by
  rw [Finset.disjoint_left]; intro y hy hy'; rw [mem_SB] at hy hy'
  have := p.2.isLt; have := p'.2.isLt
  exact hne (Prod.ext (Fin.ext (by omega)) (Fin.ext (by omega)))
theorem SB_cover : (Finset.univ : Finset (Fin 2 × Fin 4)).biUnion SB = Finset.univ := by
  ext y
  have h0 : (y 0).val < 8 := (y 0).isLt
  simp only [Finset.mem_biUnion, Finset.mem_univ, true_and, iff_true]
  exact ⟨(⟨(y 0).val / 4, by omega⟩, ⟨(y 0).val % 4, by omega⟩), (mem_SB _ _).mpr (by show _ = 4 * ((y 0).val / 4) + (y 0).val % 4; omega)⟩

theorem XS_all : XS 0 = Finset.univ ∧ XS 17 = Finset.univ := by decide +kernel
theorem FS_all : FS 0 = ∅ ∧ FS 17 = Finset.univ := by decide +kernel
theorem OS_all : OS 0 = Finset.univ ∧ OS 17 = ∅ := by decide +kernel

section Cut
variable (c : Dev nD)

theorem ent_of_eq {P Q : sProp 𝕄} (h : P = Q) : P ⊢ Q := h ▸ .rfl

theorem bigSep_four (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ
theorem bigSep_eight (Ψ : Fin 2 × Fin 4 → sProp 𝕄) :
    bigSep Finset.univ Ψ = iprop(Ψ (0, 0) ∗ Ψ (0, 1) ∗ Ψ (0, 2) ∗ Ψ (0, 3) ∗ Ψ (1, 0) ∗ Ψ (1, 1) ∗ Ψ (1, 2) ∗ Ψ (1, 3)) :=
  bigSep_univ_eq_bigSepL [((0 : Fin 2), (0 : Fin 4)), (0, 1), (0, 2), (0, 3), (1, 0), (1, 1), (1, 2), (1, 3)] (by decide) (by decide) Ψ

/-- The input whole is its sixteen groups; -/
theorem x_eq (f : XBuf (F := F) c) : (((c : Thread nD τ).loc main_v0) ↦{fullShare} f : sProp 𝕄) = bigSep Finset.univ (xG c f) := by
  rw [Ring.pointsTo_blocks (ℓ := (c : Thread nD τ).loc main_v0) GB GB_disjoint GB_cover]
  refine bigSep_congr fun g _ => ?_
  rw [Ring.pointsTo_sub_blocks (ℓ := (c : Thread nD τ).loc main_v0) (RB g) (RB_disjoint g) (GB g) (RB_cover g), bigSep_four]
  unfold xG xP
  rw [xrow_set, xrow_set, xrow_set, xrow_set]
  rfl
/-- so is the output; -/
theorem o_eq (f : OBuf (F := F) c) : (((c : Thread nD τ).loc main_v1) ↦{fullShare} f : sProp 𝕄) = bigSep Finset.univ (oG c f) := by
  rw [Ring.pointsTo_blocks (ℓ := (c : Thread nD τ).loc main_v1) GB GB_disjoint GB_cover]
  refine bigSep_congr fun g _ => ?_
  rw [Ring.pointsTo_sub_blocks (ℓ := (c : Thread nD τ).loc main_v1) (RB g) (RB_disjoint g) (GB g) (RB_cover g), bigSep_four]
  unfold oG oP
  rw [orow_set, orow_set, orow_set, orow_set]
  rfl

theorem slotP_eq (h : Fin 2) (r : Fin 4) (f : SBuf (F := F) c) :
    slotP c h r f = (((c : Thread nD τ).loc cc0_scratch0) ↦[SB (h, r)]{fullShare} f : sProp 𝕄) :=
  congrArg (fun S => (_ ↦[S]{fullShare} f : sProp 𝕄)) (slot_set h r)

/-- the scratch buffer whole is its two halves, -/
theorem buf_split : iprop(∃ f : Buf (Elt F) ((c : Thread nD τ).loc cc0_scratch0), ((c : Thread nD τ).loc cc0_scratch0) ↦{fullShare} f)
    ⊢ (iprop(sAny c 0 ∗ sAny c 1) : sProp 𝕄) := by
  iintro ⟨%f, H⟩
  ihave H2 := (ent_of_eq ((Ring.pointsTo_blocks (Ix := Unit) (Name := ℕ) (U := Pipeline.UD sig nD τ) (Lvl := ℕ) (q := fullShare)
    (ℓ := (c : Thread nD τ).loc cc0_scratch0) SB SB_disjoint SB_cover f).trans (bigSep_eight _))) $$ H
  icases H2 with ⟨H0, H1, H2, H3, H4, H5, H6, H7⟩
  unfold sAny
  isplitl [H0 H1 H2 H3]
  · iexists fun _ => f
    rw [slotP_eq, slotP_eq, slotP_eq, slotP_eq]
    isplitl [H0]; · iexact H0
    isplitl [H1]; · iexact H1
    isplitl [H2]; · iexact H2
    iexact H3
  · iexists fun _ => f
    rw [slotP_eq, slotP_eq, slotP_eq, slotP_eq]
    isplitl [H4]; · iexact H4
    isplitl [H5]; · iexact H5
    isplitl [H6]; · iexact H6
    iexact H7
/-- and back. -/
theorem buf_join : (iprop(sAny c 0 ∗ sAny c 1) : sProp 𝕄)
    ⊢ iprop(∃ f : Buf (Elt F) ((c : Thread nD τ).loc cc0_scratch0), ((c : Thread nD τ).loc cc0_scratch0) ↦{fullShare} f) := by
  unfold sAny
  iintro ⟨⟨%f, H0, H1, H2, H3⟩, ⟨%f', H4, H5, H6, H7⟩⟩
  iapply (Ring.pointsTo_blocks_join_exists (ℓ := (c : Thread nD τ).loc cc0_scratch0) SB SB_disjoint SB_cover (f 0))
  irw [bigSep_eight]
  isplitl [H0]; · iexists f 0; iapply (ent_of_eq (slotP_eq c 0 0 (f 0))); iexact H0
  isplitl [H1]; · iexists f 1; iapply (ent_of_eq (slotP_eq c 0 1 (f 1))); iexact H1
  isplitl [H2]; · iexists f 2; iapply (ent_of_eq (slotP_eq c 0 2 (f 2))); iexact H2
  isplitl [H3]; · iexists f 3; iapply (ent_of_eq (slotP_eq c 0 3 (f 3))); iexact H3
  isplitl [H4]; · iexists f' 0; iapply (ent_of_eq (slotP_eq c 1 0 (f' 0))); iexact H4
  isplitl [H5]; · iexists f' 1; iapply (ent_of_eq (slotP_eq c 1 1 (f' 1))); iexact H5
  isplitl [H6]; · iexists f' 2; iapply (ent_of_eq (slotP_eq c 1 2 (f' 2))); iexact H6
  iexists f' 3; iapply (ent_of_eq (slotP_eq c 1 3 (f' 3))); iexact H7

/-! ## The kernel's own semaphores -/

/-- The two semaphores of the loads and the two of the stores. -/
abbrev osem : Fin 4 → SemLoc sig := ![.dma (ldsem 0).sem, .dma (ldsem 1).sem, .dma (stsem 0).sem, .dma (stsem 1).sem]
theorem ownSemFacts : Pipeline.OwnSemFacts spec0 osem := by decide

theorem ownSems_eq : (Pipeline.ownSems0 (Ix := Unit) (Name := ℕ) (U := Pipeline.UD sig nD τ) (Lvl := ℕ) (Val := Elt F) (τ := τ) osem c : sProp 𝕄)
    = iprop(ldZ c 0 ∗ ldZ c 1 ∗ stZ c 0 ∗ stZ c 1) := by
  unfold Pipeline.ownSems0; rw [bigSep_four]; rfl

end Cut

/-! ## The pipeline's proof data -/

variable (m : (ℓ : Loc nD τ sig) → Buf (Elt F) ℓ) (ρ : Dev nD → PrngReg)

/-- The transposed input, the output as launched, and the table of bounds, as the region finds them. -/
abbrev xin (c : Dev nD) : XBuf (F := F) c := V m c main_v0
abbrev oin (c : Dev nD) : OBuf (F := F) c := V m c main_v1
abbrev tab (c : Dev nD) : S64x8.Idx → Elt F .i32 := V m c main_c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Inv c (xin m c) (oin m c) (tab m c) t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The table's one block is the table. -/
theorem iblk_tab (c : Dev nD) (t : Fin cfg0.N) : iblk m c 0 t = tab m c := by
  funext y
  refine congrArg (V m c main_c) (funext fun a => Fin.ext ?_)
  fin_cases a
  · show 0 * 64 + 1 * (y 0).val = (y 0).val; omega
  · show 0 * 8 + 1 * (y 1).val = (y 1).val; omega

theorem coord_val : ∀ t : Fin grid0.N, (grid0.coords t 0).val = t.val := by decide +kernel

abbrev ms0 (t : Fin cfg0.N) : Memref sig .tc .smem S64x8 .i32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  have hs := coord_val t
  unfold bodyPre bodyPost bodyAt0
  rw [show (dats m 0 c).Φ t.castSucc = Inv c (xin m c) (oin m c) (tab m c) t.val from rfl,
    show (dats m 0 c).Φ t.succ = Inv c (xin m c) (oin m c) (tab m c) (t.val + 1) from rfl, after0_0, iblk_tab, ← hs]
  unfold Dat.owesAt Pipeline.owesWithin
  rw [show (dats m 0 c).owed t.castSucc = 0 from rfl, show (dats m 0 c).owed t.succ = 0 from rfl]
  iintro ⟨HI, ⟨%W, -, HW⟩, ⟨%d, H⟩⟩
  rw [before0_0, iblk_tab]
  unfold owns
  icases H with ⟨%B, %hB, HB⟩
  iapply (wp_wand frame (wpE (defs₀ (F := F)) Variants.none (c : Thread nD τ) none) Set.univ
    (Q := fun _ => iprop(Inv c (xin m c) (oin m c) (tab m c) ((grid0.coords t 0).val + 1) ∗ tabP c (ms0 t) B ∗ ∃ W', owes (c : Thread nD τ) 0 W'))) $$ [HI HB HW]
  · iapply (step c (xin m c) (oin m c) (tab m c) (grid0.coords t) (ms0 t) _ W B hB)
    isplitl [HI]; · iexact HI
    isplitl [HB]; · iexact HB
    iexact HW
  iintro %_ ⟨HI, HB, ⟨%W', HW⟩⟩
  isplitl [HI]; · iexact HI
  isplitl [HW]
  · iexists W'; isplitr; · ipureintro; exact fun _ _ => Or.inl trivial
    iexact HW
  iexists B; isplitr
  · ipureintro; exact hB
  iexact HB

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

abbrev H0 : Finset (Ref sig .tc) := {main_v0}
abbrev R0 : Finset (Ref sig .tc) := {main_v1}
theorem H0_sub : H0 ⊆ Pipeline.restRefs sig spec0 := by decide
theorem R0_sub : R0 ⊆ Pipeline.restRefs sig spec0 \ H0 := by decide

/-- What the kernel writes, core by core. -/
abbrev outv (c : Dev nD) : OBuf (F := F) c := outOf c (xin m c) (tab m c)
/-- The buffers after the region. -/
def Gv (c : Dev nD) (b : Ref sig .tc) : Buf (Elt F) ((c.tc : Thread nD τ).loc b) := Function.update (V m c) main_v1 (outv m c) b
theorem Gv_out (c : Dev nD) : Gv m c main_v1 = outv m c := Function.update_self _ _ _

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem enter (c : Dev nD) : Pipeline.ΦDRV osem spec0 H0 R0 (V m) (V m) c ⊢ Inv c (xin m c) (oin m c) (tab m c) 0 := by
  unfold Pipeline.ΦDRV Inv
  rw [scopedRest0_eq, ownSems_eq, bigSep_singleton, bigSep_singleton, XS_all.1, FS_all.1, OS_all.1, mid_zero, bigSep_empty, ← x_eq, ← o_eq]
  iintro ⟨HS, ⟨HL0, HL1, HS0, HS1⟩, HX, HO⟩
  ihave HS := (buf_split c) $$ HS
  icases HS with ⟨H0, H1⟩
  isplitl [HX]; · iexact HX
  isplitr; · iempintro
  isplitl [HO]; · iexact HO
  isplitl [HL0]; · iexact HL0
  isplitl [HL1]; · iexact HL1
  isplitl [HS0]; · iexact HS0
  isplitl [HS1]; · iexact HS1
  isplitl [H0]; · iexact H0
  iexact H1

theorem leave (c : Dev nD) : Inv c (xin m c) (oin m c) (tab m c) 17 ⊢ Pipeline.ΦDRV osem spec0 H0 R0 (V m) (Gv m) c := by
  unfold Pipeline.ΦDRV Inv
  rw [scopedRest0_eq, ownSems_eq, bigSep_singleton, bigSep_singleton, XS_all.2, FS_all.2, OS_all.2, mid_last, bigSep_empty, ← x_eq, ← o_eq, Gv_out]
  iintro ⟨HX, HO, -, HL0, HL1, HS0, HS1, H0, H1⟩
  isplitl [H0 H1]
  · iapply (buf_join c)
    isplitl [H0]; · iexact H0
    iexact H1
  isplitl [HL0 HL1 HS0 HS1]
  · isplitl [HL0]; · iexact HL0
    isplitl [HL1]; · iexact HL1
    isplitl [HS0]; · iexact HS0
    iexact HS1
  isplitl [HX]; · iexact HX
  iexact HO

/-- The result: the kernel's output transposed back. -/
def result (c : Dev nD) : Buf (Elt F) ((c.tc : Thread nD τ).loc main_v2) :=
  (transpose S64x1x128x3000 [0, 1, 3, 2] (outv m c) transposes_S64x1x3000x128_S64x1x128x3000_0_1_3_2 : (⟨S64x1x128x3000, .f32⟩ : BufTy).Contents (Elt F))

theorem end_arg0 (c : Dev nD) (N : ℕ) :
    StableHlo.after (List.flatten [hostOps1]) (Pipeline.withArrays spec0 c (Pipeline.withR (V0 m c) R0 c (Gv m c)) fun w => (dats m 0 c).arrAt w N) (Proc.devRef .tc main_arg0)
      = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c _ _ main_arg0 (by exact (by decide : ∀ w, Pipeline.arrRef spec0 w ≠ main_arg0))]
  exact (Pipeline.withR_of_not_mem (V0 m c) R0 c (Gv m c) main_arg0 (by decide)).trans (V_main_arg0 m c)

theorem end_v2 (c : Dev nD) (N : ℕ) :
    StableHlo.after (List.flatten [hostOps1]) (Pipeline.withArrays spec0 c (Pipeline.withR (V0 m c) R0 c (Gv m c)) fun w => (dats m 0 c).arrAt w N) (Proc.devRef .tc main_v2)
      = result m c := by
  have e : Pipeline.withArrays spec0 c (Pipeline.withR (V0 m c) R0 c (Gv m c)) (fun w => (dats m 0 c).arrAt w N) (Proc.devRef .tc main_v1) = outv m c := by
    rw [Pipeline.withArrays_of_ne _ c _ _ main_v1 (by exact (by decide : ∀ w, Pipeline.arrRef spec0 w ≠ main_v1))]
    exact (Pipeline.withR_of_mem (V0 m c) R0 c (Gv m c) main_v1 (by decide)).trans (Gv_out m c)
  simp only [List.flatten_cons, List.flatten_nil, List.append_nil, hostOps1, StableHlo.after_cons, StableHlo.after_nil]
  rw [StableHlo.unary_result, e]; rfl

set_option backward.isDefEq.respectTransparency.types false in
/-- The run: the argument as launched, the result, and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v2) = result m c) ∧ r.2.sem = fun _ => 0) :=
  Pipeline.θ_run_frame_dmaR_aroundV cfgs (dats m) (0 : Fin 1) launch0 osem defs₀ Variants.none ownSemFacts H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := Gv m) (hmain := hmainD m) (hA := A_eq m)
    (hin := fun c => enter m c) (hout := fun c => leave m c)
    (Q' := _) (hQ' := fun r h => ⟨fun c => ⟨
      ((h.1 c).2 main_arg0 (Pipeline.mem_restRefs_of main_arg0 (by decide) (by decide))).trans (end_arg0 m c _),
      ((h.1 c).2 main_v2 (Pipeline.mem_restRefs_of main_v2 (by decide) (by decide))).trans (end_v2 m c _)⟩, h.2⟩)

end Cert.KernelIdeal.Hand

end
-- ==== Proof.Equal.lean ====
/-
  The equation of values: over the extended reals the kernel's result is the reference's.

  Both are read at sample `n`, frequency `f` and time `t`. The kernel's table holds each band's start and end, the reference's
  eight columns each band's start and width; the kernel multiplies a sample's sum by 1/384000, the reference divides by 384000,
  and the kernel sums over the transposed sample.
-/
module

public import proofs.«01_k».proof.Proof.IdealFrame
public import proofs.«01_k».proof.Proof.Gen.ReferenceIdeal.Run
public import Idealize.ShloMosaic.Lib.Pointwise

@[expose] public section

set_option maxRecDepth 16384

noncomputable section

namespace Cert.Equal

open Idealize.ShloMosaic Idealize.ShloMosaic.TcCoe

/-! ## The tables -/

/-- The kernel's bounds of sample `n` are the reference's starts and ends: a band's end is its start plus its width. -/
theorem bounds (n : Fin 64) :
    Cert.KernelIdeal.lit0 (Cert.KernelIdeal.S64x8.rowMajor (ix2 n (0 : Fin 8))) = Cert.ReferenceIdeal.lit0 n
    ∧ Cert.KernelIdeal.lit0 (Cert.KernelIdeal.S64x8.rowMajor (ix2 n (1 : Fin 8))) = Cert.ReferenceIdeal.lit0 n + Cert.ReferenceIdeal.lit1 n
    ∧ Cert.KernelIdeal.lit0 (Cert.KernelIdeal.S64x8.rowMajor (ix2 n (2 : Fin 8))) = Cert.ReferenceIdeal.lit2 n
    ∧ Cert.KernelIdeal.lit0 (Cert.KernelIdeal.S64x8.rowMajor (ix2 n (3 : Fin 8))) = Cert.ReferenceIdeal.lit2 n + Cert.ReferenceIdeal.lit3 n
    ∧ Cert.KernelIdeal.lit0 (Cert.KernelIdeal.S64x8.rowMajor (ix2 n (4 : Fin 8))) = Cert.ReferenceIdeal.lit4 n
    ∧ Cert.KernelIdeal.lit0 (Cert.KernelIdeal.S64x8.rowMajor (ix2 n (5 : Fin 8))) = Cert.ReferenceIdeal.lit4 n + Cert.ReferenceIdeal.lit5 n
    ∧ Cert.KernelIdeal.lit0 (Cert.KernelIdeal.S64x8.rowMajor (ix2 n (6 : Fin 8))) = Cert.ReferenceIdeal.lit6 n
    ∧ Cert.KernelIdeal.lit0 (Cert.KernelIdeal.S64x8.rowMajor (ix2 n (7 : Fin 8))) = Cert.ReferenceIdeal.lit6 n + Cert.ReferenceIdeal.lit7 n := by
  revert n; decide +kernel

/-- A position in a column of 64 is its row. -/
theorem column (n : Fin 64) : Cert.ReferenceIdeal.S64x1.rowMajor (ix2 n (0 : Fin 1)) = n :=
  Fin.ext ((by decide +kernel : ∀ n : Fin 64, (Cert.ReferenceIdeal.S64x1.rowMajor (ix2 n (0 : Fin 1))).val = n.val) n)

/-! ## The constants -/

/-- The kernel's named factor is 1/384000. -/
theorem factor : Named.named (F := Ideal) Cert.KernelIdeal.κ "inv_count" (φ := .f32) 0x362EC33E#32 = ((384000⁻¹ : ℝ) : EReal) :=
  IdealRules.named_const.ideal_named_scalar _ _ _ _ rfl

/-- The reference's divisor is 384000. -/
theorem divisor : Ideal.ofBits .f32 0x48BB8000#32 = ((384000 : ℝ) : EReal) := by
  simp [Ideal.ofBits, Ideal.ieee, -EReal.coe_mul]; norm_num

/-! ## The kernel at an index -/

section Kernel
open Cert.KernelIdeal Cert.KernelIdeal.Gen Cert.KernelIdeal.Hand

/-- The kernel's fill: the sum of a sample times 1/384000. -/
theorem fill_eq (x : FVec Ideal S3000x128 .f32) :
    fillOf (F := Ideal) x = (∑ t : Fin 3000, ∑ f : Fin 128, x (ix2 t f)) * ((384000⁻¹ : ℝ) : EReal) := by
  unfold fillOf
  pointwise
  rw [factor]

/-- A coordinate, as a word, lies between two words. -/
def within (p : ℕ) (a b : BitVec 32) : BitVec 1 :=
  IntOp.andi (IntOp.cmpi .sle a (BitVec.ofNat 32 p)) (IntOp.cmpi .slt (BitVec.ofNat 32 p) b)

/-- A filled sample at an index. -/
theorem fillRow_apply (x : FVec Ideal S3000x128 .f32) (b : Fin 8 → BitVec 32) (t : Fin 3000) (f : Fin 128) :
    fillRow (F := Ideal) x b (ix2 t f)
      = Scalar.select (IntOp.ori (IntOp.ori (within f.val (b 0) (b 1)) (within f.val (b 2) (b 3)))
          (IntOp.ori (within t.val (b 4) (b 5)) (within t.val (b 6) (b 7)))) (fillOf (F := Ideal) x) (x (ix2 t f)) := by
  pointwise [fillRow, bands]
  rfl

variable (m : (ℓ : Loc nD τ sig) → Buf (Elt Ideal) ℓ) (c : Dev nD)

/-- The kernel's argument. -/
abbrev given : FVec Ideal S64x1x128x3000 .f32 := m ((c.tc : Thread nD τ).loc main_arg0)

/-- The region's input is the argument with its last two axes exchanged. -/
theorem input_eq : xin m c
    = transpose S64x1x3000x128 [0, 1, 3, 2] (given m c) transposes_S64x1x128x3000_S64x1x3000x128_0_1_3_2 := by
  simp only [xin, V, V0, List.flatten_cons, List.flatten_nil, List.append_nil, hostOps0]
  after_results

/-- The region's table is the literal one. -/
theorem table_eq : tab m c = fun i => lit0 (S64x8.rowMajor i) := by
  simp only [tab, V, V0, List.flatten_cons, List.flatten_nil, List.append_nil, hostOps0]
  after_results
  rfl

/-- Sample `n` of the region's input. -/
theorem sample_apply (n : Fin 64) (t : Fin 3000) (f : Fin 128) :
    sample (F := Ideal) (xin m c) n (ix2 t f) = given m c (ix4 n (0 : Fin 1) f t) := by
  rw [input_eq]
  unfold sample
  pointwise

/-- The kernel's result at an index, over the reference's tables. -/
theorem result_apply (n : Fin 64) (f : Fin 128) (t : Fin 3000) :
    result m c (ix4 n (0 : Fin 1) f t)
      = Scalar.select (IntOp.ori
          (IntOp.ori (within f.val (Cert.ReferenceIdeal.lit0 n) (Cert.ReferenceIdeal.lit0 n + Cert.ReferenceIdeal.lit1 n))
            (within f.val (Cert.ReferenceIdeal.lit2 n) (Cert.ReferenceIdeal.lit2 n + Cert.ReferenceIdeal.lit3 n)))
          (IntOp.ori (within t.val (Cert.ReferenceIdeal.lit4 n) (Cert.ReferenceIdeal.lit4 n + Cert.ReferenceIdeal.lit5 n))
            (within t.val (Cert.ReferenceIdeal.lit6 n) (Cert.ReferenceIdeal.lit6 n + Cert.ReferenceIdeal.lit7 n))))
        ((∑ t' : Fin 3000, ∑ f' : Fin 128, given m c (ix4 n (0 : Fin 1) f' t')) * ((384000⁻¹ : ℝ) : EReal))
        (given m c (ix4 n (0 : Fin 1) f t)) := by
  have e : result m c (ix4 n (0 : Fin 1) f t) = outOf (F := Ideal) c (xin m c) (tab m c) (ix4 n (0 : Fin 1) t f) := by
    unfold result
    pointwise
  rw [e, ix4_eq_valueIdx]
  refine (outOf_apply (F := Ideal) c (xin m c) (tab m c) n t f).trans ?_
  rw [← ix2_eq_valueIdx]
  refine (fillRow_apply (sample (F := Ideal) (xin m c) n) (fun k => tab m c (ValueIdx.ix2 n k)) t f).trans ?_
  obtain ⟨b0, b1, b2, b3, b4, b5, b6, b7⟩ := bounds n
  rw [fill_eq, table_eq]
  simp only [← ix2_eq_valueIdx, b0, b1, b2, b3, b4, b5, b6, b7]
  congr 1
  · exact congrArg (· * ((384000⁻¹ : ℝ) : EReal)) (Finset.sum_congr rfl fun t' _ => Finset.sum_congr rfl fun f' _ => sample_apply m c n t' f')
  · exact sample_apply m c n t f

end Kernel

/-! ## The reference at an index -/

section Reference
open Cert.ReferenceIdeal Cert.ReferenceIdeal.Gen

/-- The reference's result, as a function of its argument. -/
def masked (x : FVec Ideal S64x1x128x3000 .f32) : FVec Ideal S64x1x128x3000 .f32 :=
  select (ori (broadcastInDim S64x1x128x3000 ![0, 1, 2, 3] bcast_S64x1x128x1_S64x1x128x3000_0_1_2_3 (broadcastInDim
    S64x1x128x1 ![0, 2] bcast_S64x128_S64x1x128x1_0_2 (ori (ori (broadcastInDim S64x128 ![] bcast_S_S64x128 (constantI S_ 1
    0#1)) (andi (cmpi .sle (broadcastInDim S64x128 ![0, 1] bcast_S64x1_S64x128_0_1 ((fun i => lit0 (S64x1.rowMajor i))))
    (iotaInDim S64x128 32 1)) (cmpi .slt (iotaInDim S64x128 32 1) (broadcastInDim S64x128 ![0, 1] bcast_S64x1_S64x128_0_1
    (addi ((fun i => lit0 (S64x1.rowMajor i))) ((fun i => lit1 (S64x1.rowMajor i)))))))) (andi (cmpi .sle (broadcastInDim
    S64x128 ![0, 1] bcast_S64x1_S64x128_0_1 ((fun i => lit2 (S64x1.rowMajor i)))) (iotaInDim S64x128 32 1)) (cmpi .slt
    (iotaInDim S64x128 32 1) (broadcastInDim S64x128 ![0, 1] bcast_S64x1_S64x128_0_1 (addi ((fun i => lit2 (S64x1.rowMajor
    i))) ((fun i => lit3 (S64x1.rowMajor i)))))))))) (broadcastInDim S64x1x128x3000 ![0, 1, 2, 3]
    bcast_S64x1x1x3000_S64x1x128x3000_0_1_2_3 (broadcastInDim S64x1x1x3000 ![0, 3] bcast_S64x3000_S64x1x1x3000_0_3 (ori (ori
    (broadcastInDim S64x3000 ![] bcast_S_S64x3000 (constantI S_ 1 0#1)) (andi (cmpi .sle (broadcastInDim S64x3000 ![0, 1]
    bcast_S64x1_S64x3000_0_1 ((fun i => lit4 (S64x1.rowMajor i)))) (iotaInDim S64x3000 32 1)) (cmpi .slt (iotaInDim S64x3000
    32 1) (broadcastInDim S64x3000 ![0, 1] bcast_S64x1_S64x3000_0_1 (addi ((fun i => lit4 (S64x1.rowMajor i))) ((fun i => lit5
    (S64x1.rowMajor i)))))))) (andi (cmpi .sle (broadcastInDim S64x3000 ![0, 1] bcast_S64x1_S64x3000_0_1 ((fun i => lit6
    (S64x1.rowMajor i)))) (iotaInDim S64x3000 32 1)) (cmpi .slt (iotaInDim S64x3000 32 1) (broadcastInDim S64x3000 ![0, 1]
    bcast_S64x1_S64x3000_0_1 (addi ((fun i => lit6 (S64x1.rowMajor i))) ((fun i => lit7 (S64x1.rowMajor i)))))))))))
    (broadcastInDim S64x1x128x3000 ![0, 1, 2, 3] bcast_S64x1x1x1_S64x1x128x3000_0_1_2_3 (Host.divf (broadcastInDim S64x1x1x1
    ![0, 1] bcast_S64x1_S64x1x1x1_0_1 (Host.reduceAdd x (constant S_ .f32 0x00000000#32) reducesTo_S64x1x128x3000_S64x1_d2_3
    h_S_)) (broadcastInDim S64x1x1x1 ![] bcast_S_S64x1x1x1 (constant S_ .f32 0x48BB8000#32)))) x

/-- No band covers nothing: the union's first operand drops. -/
theorem none_ori (a : BitVec 1) : IntOp.ori 0#1 a = a := BitVec.zero_or

/-- The reference's result at an index: its quotient by 384000 as a product. -/
theorem masked_apply (x : FVec Ideal S64x1x128x3000 .f32) (n : Fin 64) (f : Fin 128) (t : Fin 3000) :
    masked x (ix4 n (0 : Fin 1) f t)
      = Scalar.select (IntOp.ori
          (IntOp.ori (within f.val (lit0 n) (lit0 n + lit1 n)) (within f.val (lit2 n) (lit2 n + lit3 n)))
          (IntOp.ori (within t.val (lit4 n) (lit4 n + lit5 n)) (within t.val (lit6 n) (lit6 n + lit7 n))))
        ((∑ f' : Fin 128, ∑ t' : Fin 3000, x (ix4 n (0 : Fin 1) f' t')) * ((384000⁻¹ : ℝ) : EReal)) (x (ix4 n (0 : Fin 1) f t)) := by
  pointwise [masked]
  simp only [none_ori, column, divisor, Ideal.div_coe (by norm_num : (384000 : ℝ) ≠ 0), one_div]
  rfl

end Reference

/-! ## The equation -/

/-- From equal arguments the reference's result is the kernel's. -/
theorem result_eq (m : (ℓ : Loc Cert.KernelIdeal.nD Cert.KernelIdeal.τ Cert.KernelIdeal.sig) → Buf (Elt Ideal) ℓ)
    (c : Dev Cert.KernelIdeal.nD) (x : FVec Ideal Cert.ReferenceIdeal.S64x1x128x3000 .f32)
    (h : x = given m c) :
    masked x = Cert.KernelIdeal.Hand.result m c := by
  subst h
  funext j
  obtain ⟨n, z, f, t, rfl⟩ : ∃ (n : Fin 64) (z : Fin 1) (f : Fin 128) (t : Fin 3000), j = ix4 n z f t := ⟨j 0, j 1, j 2, j 3, eq_ix4 j⟩
  obtain rfl : z = 0 := Subsingleton.elim _ _
  refine (masked_apply _ n f t).trans (Eq.trans ?_ (result_apply m c n f t).symm)
  rw [Finset.sum_comm]

end Cert.Equal

end
-- ==== Proof.lean ====
/-
  The proof of the claim: the kernel and its reading over the extended reals run without fault, leave their argument unchanged
  and every semaphore at zero; so does the reference; the kernel's literal 2.60416664E-6 is read as 1/384000; and over the extended reals the kernel and the reference give the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.WordFrame
public import proofs.«01_k».proof.Proof.IdealFrame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run, read at its argument. -/
theorem frame_kernel : Cert.quiescent_Kernel := fun m g _ =>
  (θ_run Cert.Kernel.defs _ _).mono (fun _ h => ⟨fun c => (h.1 c).1, h.2⟩) (Cert.Kernel.Hand.run m g)

/-- The same over the extended reals. -/
theorem frame_ideal : Cert.quiescent_KernelIdeal := fun m g _ =>
  (θ_run Cert.KernelIdeal.defs _ _).mono (fun _ h => ⟨fun c => (h.1 c).1, h.2⟩) (Cert.KernelIdeal.Hand.run m g)

/-- The reference's run, read at its argument; it declares no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The named literal stands for 1/384000. -/
theorem keeps : Cert.preserves_Kernel_KernelIdeal :=
  IdealRules.named_const.statement Cert.KernelIdeal.κ "inv_count" .f32 0x362EC33E#32 ((384000⁻¹ : ℝ) : EReal) rfl

/-- Both programs end with the same result. -/
theorem value : Cert.algebraic_KernelIdeal_ReferenceIdeal := fun m g m' g' _ hm =>
  ⟨Cert.KernelIdeal.Hand.result m,
    (θ_run Cert.KernelIdeal.defs _ _).mono (fun _ h c => ⟨(h.1 c).2, (h.1 c).1⟩) (Cert.KernelIdeal.Hand.run m g),
    (θ_run Cert.ReferenceIdeal.defs _ _).mono (fun _ h c => ⟨(h c).1.trans (Cert.Equal.result_eq m c _ (hm c)), (h c).2⟩) (Cert.ReferenceIdeal.Value.run m' g')⟩

theorem claim : Cert.Claim :=
  ⟨Cert.Kernel.Gen.facts, Cert.KernelIdeal.Gen.facts, Cert.ReferenceIdeal.Gen.facts, frame_kernel, frame_ideal, frame_reference, keeps, value⟩

end Cert.Proof

end
